-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 2048, 1024]⟩ ⟨3, ![4, 2048, 4096]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S4x1024 : Shape := ⟨2, ![4, 1024]⟩
abbrev S1024x1024 : Shape := ⟨2, ![1024, 1024]⟩
abbrev S2x1024x1024 : Shape := ⟨3, ![2, 1024, 1024]⟩
abbrev S2x1032x1024 : Shape := ⟨3, ![2, 1032, 1024]⟩
abbrev S2x2 : Shape := ⟨2, ![2, 2]⟩
abbrev S2 : Shape := ⟨1, ![2]⟩
abbrev S3x1024 : Shape := ⟨2, ![3, 1024]⟩
abbrev S1x3x1024 : Shape := ⟨3, ![1, 3, 1024]⟩
abbrev S1 : Shape := ⟨1, ![1]⟩
abbrev S_ : Shape := ⟨0, ![]⟩
abbrev S1x1024x1024 : Shape := ⟨3, ![1, 1024, 1024]⟩
abbrev S1x1032x1024 : Shape := ⟨3, ![1, 1032, 1024]⟩
abbrev S1032x1024 : Shape := ⟨2, ![1032, 1024]⟩
abbrev S1x1027x1024 : Shape := ⟨3, ![1, 1027, 1024]⟩
abbrev S1027x1024 : Shape := ⟨2, ![1027, 1024]⟩
abbrev S1x1024 : Shape := ⟨2, ![1, 1024]⟩
abbrev S1024 : Shape := ⟨1, ![1024]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .bf16⟩
  | .hbm, ⟨2, _⟩ => ⟨S1024x1024, .bf16⟩
  | .hbm, ⟨3, _⟩ => ⟨S4x2048x1024, .bf16⟩
  | .local _ .vmem, ⟨0, _⟩ => ⟨S4x1024, .bf16⟩
  | .local _ .vmem, ⟨1, _⟩ => ⟨S1024x1024, .bf16⟩
  | .local _ .vmem, ⟨2, _⟩ => ⟨S4x2048x1024, .bf16⟩
  | .local _ .vmem, ⟨3, _⟩ => ⟨S2x1024x1024, .bf16⟩
  | .local _ .vmem, ⟨4, _⟩ => ⟨S2x1024x1024, .bf16⟩
  | .local _ .vmem, ⟨5, _⟩ => ⟨S2x1032x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let c0_i32_12 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1016_i32 : BitVec 32 := 1016#32
  let c0_i32_17 : BitVec 32 := 0#32
  ![v2.toNat, 1016, 0]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_19 : BitVec 32 := 1#32
  let v29 : BitVec 32 := Scalar.muli v5 c1_i32_19
  let v30 : BitVec 32 := Scalar.addi c0_i32_20 v29
  v30.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v31 : BitVec 32 := Scalar.muli v7 c1_i32_22
  let v32 : BitVec 32 := Scalar.addi c0_i32_23 v31
  v32.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : Index := Scalar.indexCast v2
  let c0_40 : Index := 0#32
  let c0_41 : Index := 0#32
  ![v77.toNat, 0, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_46 : BitVec 32 := 0#32
  let c0_i32_47 : BitVec 32 := 0#32
  ![v5.toNat, 0, 0]
def k0_off5 (d0 : Dev nD) (c0_i32_48 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c0_i32_48
  let c8_i32_49 : BitVec 32 := 8#32
  let v88 : BitVec 32 := Scalar.addi v87 c8_i32_49
  let c4_i32_50 : BitVec 32 := 4#32
  let v89 : BitVec 32 := Scalar.remsi v88 c4_i32_50
  let c0_i32_60 : BitVec 32 := 0#32
  let c0_i32_61 : BitVec 32 := 0#32
  ![v89.toNat, 0, 0]
def k0_off5_at (r : Fin 4) : BitVec 32 :=
  if r.val < 2 then
    if r.val < 1 then
      0#32
    else
      4294967295#32
  else
    if r.val < 3 then
      4294967294#32
    else
      1#32
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_56 : BitVec 32 := 1#32
  let v90 : BitVec 32 := Scalar.muli v7 c1_i32_56
  let v91 : BitVec 32 := Scalar.addi c0_i32_57 v90
  v91.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : Index := Scalar.indexCast v2
  let c1024 : Index := 1024#32
  let c0_80 : Index := 0#32
  ![v144.toNat, 1024, 0]
def k0_off7 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1016_i32_85 : BitVec 32 := 1016#32
  let c0_i32_86 : BitVec 32 := 0#32
  ![v7.toNat, 1016, 0]
def k0_off8 (d0 : Dev nD) (c0_i32_87 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v154 : BitVec 32 := Scalar.addi v2 c0_i32_87
  let c8_i32_88 : BitVec 32 := 8#32
  let v155 : BitVec 32 := Scalar.addi v154 c8_i32_88
  let c4_i32_89 : BitVec 32 := 4#32
  let v156 : BitVec 32 := Scalar.remsi v155 c4_i32_89
  let c1024_i32 : BitVec 32 := 1024#32
  let c0_i32_99 : BitVec 32 := 0#32
  ![v156.toNat, 1024, 0]
def k0_off8_at (r : Fin 4) : BitVec 32 :=
  if r.val < 2 then
    if r.val < 1 then
      0#32
    else
      1#32
  else
    if r.val < 3 then
      2#32
    else
      4294967295#32
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v157 : BitVec 32 := Scalar.muli v5 c1_i32_95
  let v158 : BitVec 32 := Scalar.addi c0_i32_96 v157
  v158.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v211 : Index := Scalar.indexCast v5
  let c0_118 : Index := 0#32
  let c0_119 : Index := 0#32
  ![v211.toNat, 0, 0]
def k0_off10 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c0_i32_124 : BitVec 32 := 0#32
  let c0_i32_125 : BitVec 32 := 0#32
  ![v9.toNat, 0, 0]
def k0_off11 (d0 : Dev nD) (c0_i32_126 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v221 : BitVec 32 := Scalar.addi v2 c0_i32_126
  let c8_i32_127 : BitVec 32 := 8#32
  let v222 : BitVec 32 := Scalar.addi v221 c8_i32_127
  let c4_i32_128 : BitVec 32 := 4#32
  let v223 : BitVec 32 := Scalar.remsi v222 c4_i32_128
  let c3_i32 : BitVec 32 := 3#32
  let v224 : BitVec 32 := Scalar.addi v223 c3_i32
  let c4_i32_129 : BitVec 32 := 4#32
  let v225 : BitVec 32 := Scalar.remsi v224 c4_i32_129
  let v240 : Index := Scalar.indexCast v225
  let c0_151 : Index := 0#32
  let c0_152 : Index := 0#32
  ![v240.toNat, 0, 0]
def k0_off11_at (r : Fin 4) : BitVec 32 :=
  if r.val < 2 then
    if r.val < 1 then
      0#32
    else
      4294967295#32
  else
    if r.val < 3 then
      4294967294#32
    else
      1#32
def k0_dev5 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_160 : BitVec 32 := 1#32
  let v252 : BitVec 32 := Scalar.muli v5 c1_i32_160
  let v253 : BitVec 32 := Scalar.addi c0_i32_161 v252
  v253.toNat
def k0_dev6 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_169 : BitVec 32 := 1#32
  let v257 : BitVec 32 := Scalar.muli v7 c1_i32_169
  let v258 : BitVec 32 := Scalar.addi c0_i32_170 v257
  v258.toNat
def k0_off12 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v311 : Index := Scalar.indexCast v7
  let c1024_193 : Index := 1024#32
  let c0_194 : Index := 0#32
  ![v311.toNat, 1024, 0]
def k0_off13 (d0 : Dev nD) (c0_i32_201 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v321 : BitVec 32 := Scalar.addi v2 c0_i32_201
  let c8_i32_202 : BitVec 32 := 8#32
  let v322 : BitVec 32 := Scalar.addi v321 c8_i32_202
  let c4_i32_203 : BitVec 32 := 4#32
  let v323 : BitVec 32 := Scalar.remsi v322 c4_i32_203
  let c1_i32_204 : BitVec 32 := 1#32
  let v324 : BitVec 32 := Scalar.addi v323 c1_i32_204
  let c4_i32_205 : BitVec 32 := 4#32
  let v325 : BitVec 32 := Scalar.remsi v324 c4_i32_205
  let v340 : Index := Scalar.indexCast v325
  let c1024_227 : Index := 1024#32
  let c0_228 : Index := 0#32
  ![v340.toNat, 1024, 0]
def k0_off13_at (r : Fin 4) : BitVec 32 :=
  if r.val < 2 then
    if r.val < 1 then
      0#32
    else
      1#32
  else
    if r.val < 3 then
      2#32
    else
      4294967295#32
def k0_dev7 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_236 : BitVec 32 := 1#32
  let v352 : BitVec 32 := Scalar.muli v7 c1_i32_236
  let v353 : BitVec 32 := Scalar.addi c0_i32_237 v352
  v353.toNat
def k0_dev8 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_246 : BitVec 32 := 1#32
  let v357 : BitVec 32 := Scalar.muli v5 c1_i32_246
  let v358 : BitVec 32 := Scalar.addi c0_i32_247 v357
  v358.toNat
def k0_off14 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let v411 : Index := Scalar.indexCast v9
  let c0_270 : Index := 0#32
  let c0_271 : Index := 0#32
  ![v411.toNat, 0, 0]
def k0_dev9 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v452 : BitVec 32 := Scalar.muli v5 c1_i32_313
  let v453 : BitVec 32 := Scalar.addi c0_i32_314 v452
  v453.toNat
def k0_dev10 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_325 : BitVec 32 := 1#32
  let v459 : BitVec 32 := Scalar.muli v7 c1_i32_325
  let v460 : BitVec 32 := Scalar.addi c0_i32_326 v459
  v460.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1016_i32_355 : BitVec 32 := 1016#32
  let c0_i32_356 : BitVec 32 := 0#32
  ![v5.toNat, 1016, 0]
def k0_dev11 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_392 : BitVec 32 := 1#32
  let v554 : BitVec 32 := Scalar.muli v7 c1_i32_392
  let v555 : BitVec 32 := Scalar.addi c0_i32_393 v554
  v555.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_405 : BitVec 32 := 1#32
  let v561 : BitVec 32 := Scalar.muli v5 c1_i32_405
  let v562 : BitVec 32 := Scalar.addi c0_i32_406 v561
  v562.toNat
def k0_dev13 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_466 : BitVec 32 := 1#32
  let v650 : BitVec 32 := Scalar.muli v5 c1_i32_466
  let v651 : BitVec 32 := Scalar.addi c0_i32_467 v650
  v651.toNat
def k0_dev14 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_479 : BitVec 32 := 1#32
  let v657 : BitVec 32 := Scalar.muli v7 c1_i32_479
  let v658 : BitVec 32 := Scalar.addi c0_i32_480 v657
  v658.toNat
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v711 : Index := Scalar.indexCast v5
  let c1024_503 : Index := 1024#32
  let c0_504 : Index := 0#32
  ![v711.toNat, 1024, 0]
def k0_dev15 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_540 : BitVec 32 := 1#32
  let v746 : BitVec 32 := Scalar.muli v7 c1_i32_540
  let v747 : BitVec 32 := Scalar.addi c0_i32_541 v746
  v747.toNat
def k0_dev16 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_553 : BitVec 32 := 1#32
  let v753 : BitVec 32 := Scalar.muli v5 c1_i32_553
  let v754 : BitVec 32 := Scalar.addi c0_i32_554 v753
  v754.toNat
def k0_dev17 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_592 : BitVec 32 := 1#32
  let v790 : BitVec 32 := Scalar.muli v5 c1_i32_592
  let v791 : BitVec 32 := Scalar.addi c0_i32_593 v790
  v791.toNat
def k0_dev18 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_605 : BitVec 32 := 1#32
  let v797 : BitVec 32 := Scalar.muli v7 c1_i32_605
  let v798 : BitVec 32 := Scalar.addi c0_i32_606 v797
  v798.toNat
def k0_dev19 (d0 : Dev nD) : Nat :=
  let c0_i32_645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_644 : BitVec 32 := 1#32
  let v834 : BitVec 32 := Scalar.muli v7 c1_i32_644
  let v835 : BitVec 32 := Scalar.addi c0_i32_645 v834
  v835.toNat
def k0_dev20 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_657 : BitVec 32 := 1#32
  let v841 : BitVec 32 := Scalar.muli v5 c1_i32_657
  let v842 : BitVec 32 := Scalar.addi c0_i32_658 v841
  v842.toNat
def k0_dev21 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_705 : BitVec 32 := 1#32
  let v881 : BitVec 32 := Scalar.muli v7 c1_i32_705
  let v882 : BitVec 32 := Scalar.addi c0_i32_706 v881
  v882.toNat
def k0_dev22 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_753 : BitVec 32 := 1#32
  let v921 : BitVec 32 := Scalar.muli v5 c1_i32_753
  let v922 : BitVec 32 := Scalar.addi c0_i32_754 v921
  v922.toNat
abbrev stage0_0 : Fin 1 → Memref sig .tc .vmem S4x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x4096 : Shape := ⟨3, ![4, 2048, 4096]⟩
abbrev S4x4096 : Shape := ⟨2, ![4, 4096]⟩
abbrev S4096x1024 : Shape := ⟨2, ![4096, 1024]⟩
abbrev S_ : Shape := ⟨0, ![]⟩
abbrev S4x3x4096 : Shape := ⟨3, ![4, 3, 4096]⟩
abbrev S4x2051x4096 : Shape := ⟨3, ![4, 2051, 4096]⟩
abbrev S1x4096 : Shape := ⟨2, ![1, 4096]⟩
abbrev S4096 : Shape := ⟨1, ![4096]⟩
abbrev S1x1x4096 : Shape := ⟨3, ![1, 1, 4096]⟩
abbrev S4x2048x1024 : Shape := ⟨3, ![4, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x4096, .bf16⟩
  | .hbm, ⟨2, _⟩ => ⟨S4096x1024, .bf16⟩
  | .hbm, ⟨3, _⟩ => ⟨S4x4096, .f32⟩
  | .hbm, ⟨4, _⟩ => ⟨S4096x1024, .f32⟩
  | .hbm, ⟨5, _⟩ => ⟨S_, .f32⟩
  | .hbm, ⟨6, _⟩ => ⟨S4x3x4096, .f32⟩
  | .hbm, ⟨7, _⟩ => ⟨S4x2051x4096, .f32⟩
  | .hbm, ⟨8, _⟩ => ⟨S_, .f32⟩
  | .hbm, ⟨9, _⟩ => ⟨S4x2048x4096, .f32⟩
  | .hbm, ⟨10, _⟩ => ⟨S4x2048x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S4x2048x4096, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S4x2048x1024, .f32⟩
  | .hbm, ⟨45, _⟩ => ⟨S4x2048x1024, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Proof.Common.lean ====
/-
# The cross-device protocol: ring, cells, contents, schedule

Four devices in a ring run two reduce-scatter / all-gather rings at once. Ring `false` moves blocks to the next
device, ring `true` to the previous one; `up ρ c` is the device that sends to `c` on ring `ρ` and `dn ρ c` the one
`c` sends to. A hop `h = 0 … 5` sends one block `1×1024×1024` from the output buffer into slot `h % 2` of the
neighbour's landing buffer. This module names the memory, the semaphore cells, the values every hop carries and the
schedule of the cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Release
public import Idealize.ShloMosaic.Lib.Transfers
public import Idealize.ShloMosaic.Lib.Writes
public import Idealize.ShloMosaic.Lib.Exec
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The ring -/

set_option backward.proofsInPublic true in
/-- The device that sends to `c` on ring `ρ`. -/
def up (ρ : Bool) (c : Dev nD) : Dev nD := ⟨(c.val + (if ρ then 1 else 3)) % 4, Nat.mod_lt _ (by decide)⟩
set_option backward.proofsInPublic true in
/-- The device `c` sends to on ring `ρ`. -/
def dn (ρ : Bool) (c : Dev nD) : Dev nD := ⟨(c.val + (if ρ then 3 else 1)) % 4, Nat.mod_lt _ (by decide)⟩
theorem up_dn (ρ : Bool) (c : Dev nD) : up ρ (dn ρ c) = c := by revert ρ c; decide
theorem dn_up (ρ : Bool) (c : Dev nD) : dn ρ (up ρ c) = c := by revert ρ c; decide

/-- One step along ring `ρ`, as a permutation of the devices. -/
def ring (ρ : Bool) : Dev nD ≃ Dev nD := ⟨dn ρ, up ρ, up_dn ρ, dn_up ρ⟩

/-- The chunk (first axis of the output) that piece `j` of ring `ρ` is on device `c`: `c - j` or `c + j`. -/
def ch (c : Dev nD) (ρ : Bool) (j : ℕ) : ℕ := (c.val + (if ρ then j else 3 * j)) % 4
theorem ch_lt (c : Dev nD) (ρ : Bool) (j : ℕ) : ch c ρ j < 4 := Nat.mod_lt _ (by decide)

/-- The landing slot of hop `h`. -/
def sl (h : ℕ) : Bool := h % 2 == 1

/-! ## The memrefs -/

abbrev xM : Memref sig .tc .hbm S4x2048x1024 .f32 := Memref.whole main_arg0
abbrev kM : Memref sig .tc .vmem S4x1024 .bf16 := Memref.whole cc0_stg0_0
abbrev wM : Memref sig .tc .vmem S1024x1024 .bf16 := Memref.whole cc0_stg1_0
abbrev oM : Memref sig .tc .vmem S4x2048x1024 .bf16 := Memref.whole cc0_stg2_0
abbrev sM : Memref sig .tc .vmem S2x1032x1024 .f32 := Memref.whole cc0_scratch2

/-- The landing buffer of ring `ρ`. -/
def cM : Bool → Memref sig .tc .vmem S2x1024x1024 .bf16
  | false => Memref.whole cc0_scratch0
  | true => Memref.whole cc0_scratch1

/-- Where slot `s` of a landing buffer starts. -/
def cOff (s : Bool) : Fin 3 → ℕ := ![if s then 1 else 0, 0, 0]
theorem cOff_inb (s : Bool) (a : Fin 3) : cOff s a + S1x1024x1024.size a ≤ S2x1024x1024.size a := by revert s a; decide
/-- Where piece `j` of ring `ρ` starts in the output. -/
def oOff (c : Dev nD) (ρ : Bool) (j : ℕ) : Fin 3 → ℕ := ![ch c ρ j, if ρ then 1024 else 0, 0]
theorem oOff_inb (c : Dev nD) (ρ : Bool) (j : ℕ) (a : Fin 3) : oOff c ρ j a + S1x1024x1024.size a ≤ S4x2048x1024.size a := by
  have h := ch_lt c ρ j
  have key : ∀ (k : Fin 4) (ρ : Bool) (a : Fin 3),
      (![k.val, if ρ then 1024 else 0, 0] : Fin 3 → ℕ) a + S1x1024x1024.size a ≤ S4x2048x1024.size a := by decide
  exact key ⟨ch c ρ j, h⟩ ρ a

abbrev cRect (s : Bool) : Rect S2x1024x1024 := Rect.unit (s := S2x1024x1024) (cOff s) S1x1024x1024.size (cOff_inb s)
abbrev oRect (c : Dev nD) (ρ : Bool) (j : ℕ) : Rect S4x2048x1024 := Rect.unit (s := S4x2048x1024) (oOff c ρ j) S1x1024x1024.size (oOff_inb c ρ j)

/-- Slot `s` of ring `ρ`'s landing buffer. -/
def cSl (ρ s : Bool) : Memref sig .tc .vmem S1x1024x1024 .bf16 := (cM ρ).slice (cRect s) (fun _ => rfl)
/-- Piece `j` of ring `ρ` in the output of device `c`. -/
def oSl (c : Dev nD) (ρ : Bool) (j : ℕ) : Memref sig .tc .vmem S1x1024x1024 .bf16 := oM.slice (oRect c ρ j) (fun _ => rfl)
/-- The same two as the transfers name them, without the unit axis. -/
def cSq (ρ s : Bool) : Memref sig .tc .vmem S1024x1024 .bf16 := (cSl ρ s).squeeze S1024x1024 squeezes_S1x1024x1024_S1024x1024
def oSq (c : Dev nD) (ρ : Bool) (j : ℕ) : Memref sig .tc .vmem S1024x1024 .bf16 := (oSl c ρ j).squeeze S1024x1024 squeezes_S1x1024x1024_S1024x1024

/-! ## The semaphores and the cells -/

set_option backward.proofsInPublic true in
abbrev barS : Sem sig := (SemArray.scalar (sig.barrier 0 rfl) : Sems sig S_).sem
set_option backward.proofsInPublic true in
def sendS (ρ s : Bool) : DmaSem sig := ⟨3 + (2 * ρ.toNat + s.toNat), by revert ρ s; decide⟩
set_option backward.proofsInPublic true in
def recvS (ρ s : Bool) : DmaSem sig := ⟨7 + (2 * ρ.toNat + s.toNat), by revert ρ s; decide⟩
set_option backward.proofsInPublic true in
def stageS (ρ : Bool) : DmaSem sig := ⟨11 + ρ.toNat, by revert ρ; decide⟩
set_option backward.proofsInPublic true in
def credS (ρ : Bool) : Sem sig := ⟨ρ.toNat, by revert ρ; decide⟩

/-- The cells of one device that the devices coordinate through. -/
inductive CK where
  | bar : CK
  | send (ρ s : Bool) : CK
  | recv (ρ s : Bool) : CK
  | cred (ρ : Bool) : CK
  deriving DecidableEq

/-- The kinds, listed. -/
def allCK : List CK :=
  [.bar, .send false false, .send false true, .send true false, .send true true,
   .recv false false, .recv false true, .recv true false, .recv true true, .cred false, .cred true]
instance : Fintype CK := ⟨⟨(allCK : Multiset CK), by decide⟩, by
  intro k; rcases k with _ | ⟨_ | _, _ | _⟩ | ⟨_ | _, _ | _⟩ | ⟨_ | _⟩ <;> decide⟩

def osem : CK → SemLoc sig
  | .bar => .reg barS
  | .send ρ s => .dma (sendS ρ s)
  | .recv ρ s => .dma (recvS ρ s)
  | .cred ρ => .reg (credS ρ)

/-- Which kind a semaphore is. -/
def dec (g : GSem nD τ sig) : Option CK := if g.1.2 = .tc then allCK.find? (fun k => osem k = g.2) else none

abbrev kcell (x : Dev nD × CK) : GSem nD τ sig := ((x.1 : Thread nD τ), osem x.2)
abbrev barCell (c : Dev nD) : GSem nD τ sig := kcell (c, .bar)
abbrev sendCell (c : Dev nD) (ρ s : Bool) : GSem nD τ sig := kcell (c, .send ρ s)
abbrev recvCell (c : Dev nD) (ρ s : Bool) : GSem nD τ sig := kcell (c, .recv ρ s)
abbrev credCell (c : Dev nD) (ρ : Bool) : GSem nD τ sig := kcell (c, .cred ρ)

theorem find_osem (k : CK) : allCK.find? (fun k' => osem k' = osem k) = some k := by
  rcases k with _ | ⟨_ | _, _ | _⟩ | ⟨_ | _, _ | _⟩ | ⟨_ | _⟩ <;> decide
theorem dec_kcell (c : Dev nD) (k : CK) : dec (kcell (c, k)) = some k := by
  unfold dec; rw [if_pos rfl]; exact find_osem k
theorem osem_inj : Function.Injective osem := fun a b h => by
  have := find_osem a; rw [h, find_osem b] at this; exact (Option.some.inj this).symm
theorem kcell_inj : Function.Injective kcell := by
  rintro ⟨c, k⟩ ⟨c', k'⟩ h
  have h1 : (c : Thread nD τ) = c' := congrArg Prod.fst h
  have h2 : osem k = osem k' := congrArg Prod.snd h
  have h3 : c = c' := congrArg Prod.fst h1
  rw [h3, osem_inj h2]

/-- What one hop's transfer adds to its semaphores. -/
@[irreducible] def N : ℕ := (cSl false false).view.dmaCredit
theorem N_pos : 0 < N := by unfold N; exact View.dmaCredit_pos _ (by decide)

/-! ## The resource algebra -/

abbrev Key : Type := Dev nD × Bool × Bool
abbrev UB : Type := URounds (GSem nD τ sig) ℕ
abbrev UU : Type := UR sig nD τ × (UB × (USlots Key × Counters))

local notation "𝕄" => MT nD τ sig ℕ (Elt F) ℕ UU ℕ

abbrev EP : Emb (UR sig nD τ) (MT nD τ sig ℕ (Elt F) ℕ UU ℕ) := embL
abbrev ERest : Emb (UB × (USlots Key × Counters)) (MT nD τ sig ℕ (Elt F) ℕ UU ℕ) := embR
abbrev ER : Emb UB (MT nD τ sig ℕ (Elt F) ℕ UU ℕ) := (Emb.inl : Emb UB (UB × (USlots Key × Counters))).trans ERest
abbrev ES : Emb (USlots Key) (MT nD τ sig ℕ (Elt F) ℕ UU ℕ) :=
  ((Emb.inl : Emb (USlots Key) (USlots Key × Counters)).trans (Emb.inr : Emb _ (UB × (USlots Key × Counters)))).trans ERest
abbrev EC : UEmb Counters (MT nD τ sig ℕ (Elt F) ℕ UU ℕ) := countersEmb

variable (m : (ℓ : Loc nD τ sig) → Buf (Elt F) ℓ) (ρs : Dev nD → PrngReg)

def s₀ : MemSt nD τ sig (Elt F) := ⟨m, fun _ => 0, ρs⟩

/-! ## Contents -/

/-- An index of the input. -/
def xi (k : Fin 4) (r : Fin 2048) (d : Fin 1024) : S4x2048x1024.Idx := fun a =>
  match a with
  | ⟨0, _⟩ => k
  | ⟨1, _⟩ => r
  | ⟨2, _⟩ => d

/-- The input block, the taps and the weights of device `c`, as the body finds them. -/
def xst (c : Dev nD) : (main_arg0 : Ref sig .tc).ty.Contents (Elt F) := m ((c : Thread nD τ).loc main_arg0)
def kst (c : Dev nD) : (cc0_stg0_0 : Ref sig .tc).ty.Contents (Elt F) := m ((c : Thread nD τ).loc main_arg1)
def wst (c : Dev nD) : (cc0_stg1_0 : Ref sig .tc).ty.Contents (Elt F) := m ((c : Thread nD τ).loc main_arg2)

/-- The `1027` input rows that half `ρ` of chunk `k` is computed from: the `1024` rows of the half and the three
    before them, zero before the start of the sequence. -/
def seg (c : Dev nD) (k : Fin 4) (ρ : Bool) : Vec F S1x1027x1024 .f32 := fun i =>
  if ρ = false ∧ (i 1).val < 3 then Scalar.ofBits .f32 0x00000000#32
  else xst m c (xi k ⟨((i 1).val + (if ρ then 1021 else 2045)) % 2048, Nat.mod_lt _ (by decide)⟩ (i 2))

/-- Tap row `t`. -/
def krow (c : Dev nD) (off : Fin 2 → ℕ) (inb : ∀ a, off a + S1x1024.size a ≤ S4x1024.size a) : Vec F S1x1024 .bf16 :=
  (kM : Memref sig .tc .vmem S4x1024 .bf16).view.readAt (Elt F) (Rect.unit (s := S4x1024) off S1x1024.size inb).toLoadRect (kst m c)

/-- Device `c`'s partial product for half `ρ` of chunk `k`. -/
def yv (c : Dev nD) (k : Fin 4) (ρ : Bool) : Vec F S1x1024x1024 .bf16 :=
  k0_pay15 (k0_pay14 (k0_pay2 (wst m c)) (seg m c k ρ) (krow m c ![0, 0] inb_S4x1024_S1x1024_0_0) (krow m c ![1, 0] inb_S4x1024_S1x1024_1_0)
    (krow m c ![2, 0] inb_S4x1024_S1x1024_2_0) (krow m c ![3, 0] inb_S4x1024_S1x1024_3_0))

/-- What device `c` sends on ring `ρ` at hop `h`: its own partial product at hop `0`; at hops `1` to `3` its partial
    product of the next piece plus what it received; afterwards what it received. -/
def V (ρ : Bool) : ℕ → Dev nD → Vec F S1x1024x1024 .bf16
  | 0, c => yv m c ⟨ch c ρ 0, ch_lt c ρ 0⟩ ρ
  | h + 1, c => if h < 3 then k0_pay16 (yv m c ⟨ch c ρ (h + 1), ch_lt c ρ (h + 1)⟩ ρ) (V ρ h (up ρ c)) else V ρ h (up ρ c)

/-! ## Release witnesses -/

/-- What the receiver `c` of ring `ρ` has told after `n` releases: how often each of its two landing slots was
    released, and which round of its receive cells is open. -/
def RF (c : Dev nD) (ρ : Bool) (n : ℕ) : sProp 𝕄 :=
  iprop(released ES (c, ρ, false) ((n + 1) / 2 + 1) ∗ reached ER (recvCell c ρ false) ((n + 1) / 2)
    ∗ released ES (c, ρ, true) (n / 2 + 1) ∗ reached ER (recvCell c ρ true) (n / 2))
instance RF_persistent (c : Dev nD) (ρ : Bool) (n : ℕ) : BI.Persistent (RF (F := F) c ρ n) := by unfold RF; infer_instance
instance RF_storable (c : Dev nD) (ρ : Bool) (n : ℕ) : BI.Storable (upEmb : UEmb _ 𝕄) (RF (F := F) c ρ n) := by unfold RF; infer_instance

/-- What a landing slot's invariant holds. -/
def Sl (k : Key) : sProp 𝕄 := iprop(∃ v, owns (k.1 : Thread nD τ) (cSl k.2.1 k.2.2) fullShare v)
instance Sl_storable (k : Key) : BI.Storable (upEmb : UEmb _ 𝕄) (Sl (F := F) k) := by unfold Sl; infer_instance

/-! ## The schedule -/

/-- The duties of one round of a cell: two barrier signals; one transfer per round, three rounds; four credits. -/
def dut : CK → ℕ → Finset ℕ
  | .bar, r => if r = 0 then {0, 1} else ∅
  | .send _ _, r => if r < 3 then {0} else ∅
  | .recv _ _, r => if r < 3 then {0} else ∅
  | .cred _, r => if r = 0 then Finset.range 4 else ∅
def amt : CK → ℕ
  | .bar => 1
  | .send _ _ => N
  | .recv _ _ => N
  | .cred _ => 1
/-- What each payment carries. -/
def pay (c : Dev nD) : CK → ℕ → ℕ → sProp 𝕄
  | .bar, _, d => RF (dn (d == 1) c) (d == 1) 0
  | .send ρ s, r, _ => owns (c : Thread nD τ) (oSl c ρ ((2 * r + s.toNat) % 4)) fullShare (V m ρ (2 * r + s.toNat) c)
  | .recv ρ s, r, _ => owns (c : Thread nD τ) (cSl ρ s) fullShare (V m ρ (2 * r + s.toNat) (up ρ c))
  | .cred ρ, _, d => RF (dn ρ c) ρ (d + 1)
instance pay_storable (c : Dev nD) (k : CK) (r d : ℕ) : BI.Storable (upEmb : UEmb _ 𝕄) (pay (F := F) m c k r d) := by
  cases k <;> unfold pay <;> infer_instance

def ringRd : Rounds.Schedule (GSem nD τ sig) ℕ 𝕄 where
  duties g r := match dec g with | some k => dut k r | none => ∅
  unitless _ := False
  amount g _ _ := match dec g with | some k => amt k | none => 1
  payload g r d := match dec g with | some k => pay m g.1.1 k r d | none => iprop(emp)
  amount_pos g _ _ _ := by
    cases h : dec g with
    | none => exact Nat.one_pos
    | some k =>
      match k with
      | .bar => exact Nat.one_pos
      | .send _ _ => exact N_pos
      | .recv _ _ => exact N_pos
      | .cred _ => exact Nat.one_pos

instance ringRd_payload_storable (g : GSem nD τ sig) (r d : ℕ) :
    BI.Storable (upEmb : UEmb _ 𝕄) ((ringRd (F := F) m).payload g r d) := by
  show BI.Storable upEmb (match dec g with | some k => pay m g.1.1 k r d | none => iprop(emp))
  cases dec g <;> infer_instance

section Sched
variable (c : Dev nD)

theorem duties_eq (k : CK) (r : ℕ) : (ringRd (F := F) m).duties (kcell (c, k)) r = dut k r := by
  dsimp only [ringRd]; rw [dec_kcell]
theorem amount_eq (k : CK) (r d : ℕ) : (ringRd (F := F) m).amount (kcell (c, k)) r d = amt k := by
  dsimp only [ringRd]; rw [dec_kcell]
theorem payload_eq (k : CK) (r d : ℕ) : (ringRd (F := F) m).payload (kcell (c, k)) r d = pay m c k r d := by
  dsimp only [ringRd]; rw [dec_kcell]
theorem expect_eq (k : CK) (r : ℕ) : (ringRd (F := F) m).expect (kcell (c, k)) r = (dut k r).card * amt k := by
  unfold Schedule.expect Schedule.amountOf
  rw [duties_eq, Finset.sum_congr rfl fun d _ => amount_eq m c k r d, Finset.sum_const, smul_eq_mul]

/-- No round of a cell has duties from its last on. -/
def lastR : CK → ℕ
  | .bar => 1
  | .send _ _ => 3
  | .recv _ _ => 3
  | .cred _ => 1
theorem duties_later (k : CK) : ∀ r, lastR k ≤ r → (ringRd (F := F) m).duties (kcell (c, k)) r = ∅ := by
  intro r hr
  rw [duties_eq]
  cases k <;> simp only [lastR] at hr <;> simp only [dut] <;> rw [if_neg (by omega)]

end Sched

/-! ## What each core owes; the levels -/

/-- One payment to another device's cell. -/
inductive Pay where
  | bar (ρ : Bool) : Pay
  | data (ρ : Bool) (h : ℕ) : Pay
  | cred (ρ : Bool) (h : ℕ) : Pay

/-- A device's payments, in the order it makes them. -/
def tbl : List Pay :=
  [.bar false, .bar true, .data false 0, .data true 0,
   .cred false 0, .data false 1, .cred true 0, .data true 1,
   .cred false 1, .data false 2, .cred true 1, .data true 2,
   .cred false 2, .data false 3, .cred true 2, .data true 3,
   .cred false 3, .data false 4, .cred true 3, .data true 4, .data false 5, .data true 5]
def payAt (i : ℕ) : Pay := tbl.getD i (.bar false)

/-- The ring a payment is on, and whether it goes downstream. -/
def Pay.to : Pay → Dev nD → Dev nD
  | .bar ρ => up ρ
  | .data ρ _ => dn ρ
  | .cred ρ _ => up ρ
def Pay.frm : Pay → Dev nD → Dev nD
  | .bar ρ => dn ρ
  | .data ρ _ => up ρ
  | .cred ρ _ => dn ρ
theorem Pay.to_frm (p : Pay) (c : Dev nD) : p.to (p.frm c) = c := by cases p <;> simp only [Pay.to, Pay.frm, up_dn, dn_up]
theorem Pay.frm_to (p : Pay) (c : Dev nD) : p.frm (p.to c) = c := by cases p <;> simp only [Pay.to, Pay.frm, up_dn, dn_up]
def Pay.kind : Pay → CK
  | .bar _ => .bar
  | .data ρ h => .recv ρ (sl h)
  | .cred ρ _ => .cred ρ

/-- The positions of the hops' transfers and credits among a device's payments. -/
def posD (ρ : Bool) (h : ℕ) : ℕ := if ρ then [3, 7, 11, 15, 19, 21].getD h 0 else [2, 5, 9, 13, 17, 20].getD h 0
def posC (ρ : Bool) (h : ℕ) : ℕ := if ρ then [6, 10, 14, 18].getD h 0 else [4, 8, 12, 16].getD h 0

/-- The index a payment is accounted at: one past its position, but the two barrier signals share theirs. -/
def ix (i : ℕ) : ℕ := max (i + 1) 2

/-- What device `c` still owes with `n` payments made. -/
def owed (c : Dev nD) (n : ℕ) : CellTallies nD τ sig ℕ :=
  ∑ i ∈ Finset.Ico n 22, tallyAt (kcell ((payAt i).to c, (payAt i).kind)) (ix i) (amt (payAt i).kind)

theorem owed_step (c : Dev nD) (n : ℕ) (hn : n < 22) :
    owed c n = owed c (n + 1) + tallyAt (kcell ((payAt n).to c, (payAt n).kind)) (ix n) (amt (payAt n).kind) := by
  unfold owed
  rw [show Finset.Ico n 22 = insert n (Finset.Ico (n + 1) 22) from by
    ext i; rw [Finset.mem_insert, Finset.mem_Ico, Finset.mem_Ico]; omega, Finset.sum_insert (by rw [Finset.mem_Ico]; omega), add_comm]
theorem owed_end (c : Dev nD) : owed c 22 = 0 := by unfold owed; rw [Finset.Ico_self, Finset.sum_empty]

def L (g : GSem nD τ sig) : Finset ℕ := if g.1.2 = .tc then Finset.range 24 else ∅
def lv (g : GSem nD τ sig) (i : ℕ) : ℕ := i

theorem L_of_ne (g : GSem nD τ sig) (h : g.1.2 ≠ .tc) : L g = ∅ := if_neg h
theorem mem_L (c : Dev nD) (sm : SemLoc sig) (i : ℕ) (hi : i < 24) : i ∈ L ((c : Thread nD τ), sm) := by
  unfold L; rw [if_pos rfl]; exact Finset.mem_range.mpr hi

theorem owed_pos {c : Dev nD} {n : ℕ} {g : GSem nD τ sig} {i : ℕ} (h : 0 < owed c n g i) : g.1.2 = .tc ∧ n < i ∧ i < 24 := by
  unfold owed at h
  obtain ⟨j, hj, hp⟩ := Pipeline.sum_pos_exists h
  obtain ⟨rfl, rfl⟩ := Pipeline.tallyAt_pos hp
  rw [Finset.mem_Ico] at hj
  unfold ix
  exact ⟨rfl, by omega, by omega⟩

/-- A device with `n` payments made may wait at any index up to `n`. -/
theorem mayWait (c : Dev nD) (sm : SemLoc sig) (i n : ℕ) (hi : i ≤ n) (hn : n < 24) :
    (levAts L lv : sProp 𝕄) ⊢ MayWait (c : Thread nD τ) sm i (owed c n) :=
  Pipeline.mayWait_of_levAts (mem_L c sm i (by omega)) fun g j hj => by
    obtain ⟨h1, h2, h3⟩ := owed_pos hj
    refine ⟨?_, ?_⟩
    · unfold L; rw [if_pos h1]; exact Finset.mem_range.mpr h3
    · show i < j; omega

end Cert.RingProof

end
-- ==== Proof.Steps.lean ====
/-
# One rule per kind of step of the ring kernel

The device's share of the protocol, as a handful of assertions, and for every kind of step the kernel takes — a load or
store of an output piece or landing slot, the start of a hop, its two waits, the credit signal and wait, the barrier —
one rule at a symbolic device, ring and hop.
-/
module

public import proofs.«01_k».proof.Proof.Common

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## Pieces and slots -/

/-- Device `c` owns piece `j` of ring `ρ` of its output, and it holds `X`. -/
def OP (c : Dev nD) (ρ : Bool) (j : ℕ) (X : Vec F S1x1024x1024 .bf16) : sProp 𝕄 := owns (c : Thread nD τ) (oSl c ρ j) fullShare X
/-- Device `c` owns slot `s` of its landing buffer for ring `ρ`, and it holds `X`. -/
def CS (c : Dev nD) (ρ s : Bool) (X : Vec F S1x1024x1024 .bf16) : sProp 𝕄 := owns (c : Thread nD τ) (cSl ρ s) fullShare X

theorem OP_def (c : Dev nD) (ρ : Bool) (j : ℕ) (X : Vec F S1x1024x1024 .bf16) : OP c ρ j X
    = iprop(∃ f, ⌜(oM : Memref sig .tc .vmem S4x2048x1024 .bf16).view.readAt (Elt F) (oRect c ρ j).toLoadRect f = X⌝
      ∗ ((oM : Memref sig .tc .vmem S4x2048x1024 .bf16).view.loc (c : Thread nD τ) ↦[(oSl c ρ j).view.set]{fullShare} f)) := rfl
theorem CS_def (c : Dev nD) (ρ s : Bool) (X : Vec F S1x1024x1024 .bf16) : CS c ρ s X
    = iprop(∃ f, ⌜(cM ρ).view.readAt (Elt F) (cRect s).toLoadRect f = X⌝
      ∗ ((cM ρ).view.loc (c : Thread nD τ) ↦[(cSl ρ s).view.set]{fullShare} f)) := rfl

theorem oSl_sub (c : Dev nD) (ρ : Bool) (j : ℕ) : (oM : Memref sig .tc .vmem S4x2048x1024 .bf16).view.setOn (oRect c ρ j).toLoadRect.set ⊆ (oSl c ρ j).view.set :=
  (View.set_slice (oM : Memref sig .tc .vmem S4x2048x1024 .bf16).view (oRect c ρ j)).symm.subset
theorem cSl_sub (ρ s : Bool) : (cM ρ).view.setOn (cRect s).toLoadRect.set ⊆ (cSl ρ s).view.set := (View.set_slice (cM ρ).view (cRect s)).symm.subset
theorem oSl_acc (c : Dev nD) (ρ : Bool) (j : ℕ) : ((oM : Memref sig .tc .vmem S4x2048x1024 .bf16).access (oRect c ρ j)).setOn Finset.univ ⊆ (oSl c ρ j).view.set :=
  Finset.Subset.refl _

section Mem
variable {α : Type} {Q : α → sProp (MT nD τ sig ℕ (Elt F) ℕ UU ℕ)} (c : Dev nD)

theorem wp_ldO (ρ : Bool) (j : ℕ) {off : Fin 3 → ℕ} {inb : ∀ a, off a + S1x1024x1024.size a ≤ S4x2048x1024.size a} (h : off = oOff c ρ j)
    {X : Vec F S1x1024x1024 .bf16} {hl : (oM : Memref sig .tc .vmem S4x2048x1024 .bf16).view.LoadsAt (Rect.unit (s := S4x2048x1024) off S1x1024x1024.size inb).toLoadRect}
    {k : Vec F S1x1024x1024 .bf16 → Prog (TpuEff nD τ sig (Elt F) Λ₀ .tc) α} :
    OP c ρ j X ⊢ iprop((OP c ρ j X -∗ WP c (k X) Q) -∗ WP c (.op (.load oM (Rect.unit (s := S4x2048x1024) off S1x1024x1024.size inb).toLoadRect hl) k) Q) := by
  subst h
  rw [OP_def]
  iintro ⟨%f, %hf, H⟩ Hk
  iapply (wp_load 𝒱₀ (c : Thread nD τ) none Set.univ (m := oM) (S := (oSl c ρ j).view.set) (f := f)
    (oSl_sub c ρ j)) $$ H
  iintro H
  rw [hf]
  iapply Hk
  iexists f
  isplitr; · ipureintro; exact hf
  iexact H

theorem wp_ldC (ρ s : Bool) {M : Memref sig .tc .vmem S2x1024x1024 .bf16} (hM : M = cM ρ) {off : Fin 3 → ℕ}
    {inb : ∀ a, off a + S1x1024x1024.size a ≤ S2x1024x1024.size a} (h : off = cOff s)
    {X : Vec F S1x1024x1024 .bf16} {hl : M.view.LoadsAt (Rect.unit (s := S2x1024x1024) off S1x1024x1024.size inb).toLoadRect}
    {k : Vec F S1x1024x1024 .bf16 → Prog (TpuEff nD τ sig (Elt F) Λ₀ .tc) α} :
    CS c ρ s X ⊢ iprop((CS c ρ s X -∗ WP c (k X) Q) -∗ WP c (.op (.load M (Rect.unit (s := S2x1024x1024) off S1x1024x1024.size inb).toLoadRect hl) k) Q) := by
  subst h hM
  rw [CS_def]
  iintro ⟨%f, %hf, H⟩ Hk
  iapply (wp_load 𝒱₀ (c : Thread nD τ) none Set.univ (m := cM ρ) (S := (cSl ρ s).view.set) (f := f)
    (cSl_sub ρ s)) $$ H
  iintro H
  rw [hf]
  iapply Hk
  iexists f
  isplitr; · ipureintro; exact hf
  iexact H

theorem wp_stO (ρ : Bool) (j : ℕ) {off : Fin 3 → ℕ} {inb : ∀ a, off a + S1x1024x1024.size a ≤ S4x2048x1024.size a} (h : off = oOff c ρ j)
    {X w : Vec F S1x1024x1024 .bf16}
    {hx : ((oM : Memref sig .tc .vmem S4x2048x1024 .bf16).access (Rect.unit (s := S4x2048x1024) off S1x1024x1024.size inb)).Stores Finset.univ}
    {hm : (Finset.univ : Finset (Rect.unit (s := S4x2048x1024) off S1x1024x1024.size inb).shape.Idx) = Finset.univ ∨ ∀ a, (Rect.unit (s := S4x2048x1024) off S1x1024x1024.size inb).stride a = 1}
    {k : PUnit → Prog (TpuEff nD τ sig (Elt F) Λ₀ .tc) α} :
    OP c ρ j X ⊢ iprop((OP c ρ j w -∗ WP c (k ⟨⟩) Q)
      -∗ WP c (.op (.store oM (Rect.unit (s := S4x2048x1024) off S1x1024x1024.size inb) w Finset.univ hx hm) k) Q) := by
  subst h
  rw [OP_def, OP_def]
  iintro ⟨%f, %hf, H⟩ Hk
  iapply (wp_store 𝒱₀ (c : Thread nD τ) none Set.univ (m := oM) (r := oRect c ρ j) (Mk := Finset.univ) (S := (oSl c ρ j).view.set) (f := f)
    (oSl_acc c ρ j)) $$ H
  iintro H
  iapply Hk
  iexists ((oM.access (oRect c ρ j)).write (Elt F) f w Finset.univ)
  isplitr
  · ipureintro; exact View.read_write_univ _ _
  iexact H

end Mem

/-! ## The device's share of the protocol -/

/-- What device `c` owes after `n` payments. -/
def Ow (c : Dev nD) (n : ℕ) : sProp 𝕄 := iprop(∃ W, owes (c : Thread nD τ) (owed c n) W)

/-- The persistent part: the cells' and the slots' invariants, and the levels. -/
def Env (κ : Dev nD × CK → ℕ) (κs : Key → ℕ) : sProp 𝕄 :=
  iprop((bigSep Finset.univ fun x : Dev nD × CK => cellInv ER (ringRd m) (κ x) (kcell x))
    ∗ (bigSep Finset.univ fun k : Key => slotInv ES (κs k) k (Sl k)) ∗ levAts L lv
    ∗ bigSep Finset.univ fun x : Dev nD × CK => reached ER (kcell x) 0)
instance Env_persistent (κ : Dev nD × CK → ℕ) (κs : Key → ℕ) : BI.Persistent (Env m κ κs) := by unfold Env; infer_instance

/-- Slot `s` of ring `ρ` at round `r`: where `c` stands on the slot's two cells, and that it has released the slot for
    round `r` (no more after the third round). -/
def SV (c : Dev nD) (ρ s : Bool) (r : ℕ) : sProp 𝕄 :=
  iprop(atPos ER (sendCell c ρ s) r ∅ 0 ∗ reached ER (sendCell c ρ s) r ∗ atPos ER (recvCell c ρ s) r ∅ 0 ∗ reached ER (recvCell c ρ s) r
    ∗ readerAt ES (c, ρ, s) (r + 1))

/-- The tokens device `c` needs for hop `h`: the transfer's two duties and the right to write the neighbour's slot, and
    the credit for what it receives itself. -/
def HopTok (c : Dev nD) (ρ : Bool) (h : ℕ) : sProp 𝕄 :=
  iprop(dutyTok ER (sendCell c ρ (sl h)) (h / 2) 0 ∗ dutyTok ER (recvCell (dn ρ c) ρ (sl h)) (h / 2) 0 ∗ writeTok ES (dn ρ c, ρ, sl h) (h / 2 + 1)
    ∗ cred (tallyAt (recvCell c ρ (sl h)) (posD ρ h + 1) N))
def TK (c : Dev nD) (ρ : Bool) (h : ℕ) : sProp 𝕄 := bigSep (Finset.Ico h 6) (HopTok c ρ)

/-- The credit signals left to make. -/
def CT (c : Dev nD) (ρ : Bool) (h : ℕ) : sProp 𝕄 := bigSep (Finset.Ico h 4) fun h => dutyTok ER (credCell (up ρ c) ρ) 0 h

/-- After `i` credit waits on ring `ρ`. -/
def CW (c : Dev nD) (ρ : Bool) (i : ℕ) : sProp 𝕄 :=
  iprop((∃ T : Finset ℕ, ⌜T ⊆ Finset.range 4 ∧ i ≤ T.card⌝ ∗ atPos ER (credCell c ρ) 0 T i ∗ bigSep T (fun d => RF (dn ρ c) ρ (d + 1)))
    ∗ bigSep (Finset.Ico i 4) fun i => cred (tallyAt (credCell c ρ) (posC ρ i + 1) 1))

/-- Hop `h` under way: neither of its two waits made. -/
def FA (c : Dev nD) (ρ s : Bool) (r : ℕ) : sProp 𝕄 :=
  iprop(SV c ρ s r ∗ cred (tallyAt (sendCell c ρ s) 0 N) ∗ cred (tallyAt (recvCell c ρ s) (posD ρ (2 * r + s.toNat) + 1) N))
/-- The send wait made. -/
def FB (c : Dev nD) (ρ s : Bool) (r : ℕ) : sProp 𝕄 :=
  iprop(atPos ER (sendCell c ρ s) (r + 1) ∅ 0 ∗ reached ER (sendCell c ρ s) (r + 1) ∗ atPos ER (recvCell c ρ s) r ∅ 0
    ∗ readerAt ES (c, ρ, s) (r + 1) ∗ cred (tallyAt (recvCell c ρ s) (posD ρ (2 * r + s.toNat) + 1) N))
/-- Both made, the slot not yet released. -/
def FC (c : Dev nD) (ρ s : Bool) (r : ℕ) : sProp 𝕄 :=
  iprop(atPos ER (sendCell c ρ s) (r + 1) ∅ 0 ∗ reached ER (sendCell c ρ s) (r + 1) ∗ atPos ER (recvCell c ρ s) (r + 1) ∅ 0
    ∗ reached ER (recvCell c ρ s) (r + 1) ∗ readerAt ES (c, ρ, s) (r + 1))

theorem sl_hop (s : Bool) (r : ℕ) : sl (2 * r + s.toNat) = s := by
  unfold sl; cases s
  · rw [show (2 * r + Bool.toNat false) % 2 = 0 from by simp only [Bool.toNat_false]; omega]; rfl
  · rw [show (2 * r + Bool.toNat true) % 2 = 1 from by simp only [Bool.toNat_true]; omega]; rfl
theorem div_hop (s : Bool) (r : ℕ) : (2 * r + s.toNat) / 2 = r := by
  cases s
  · simp only [Bool.toNat_false]; omega
  · simp only [Bool.toNat_true]; omega

/-- The first of the remaining. -/
theorem Ico_split {n k : ℕ} (h : n < k) (Φ : ℕ → sProp 𝕄) : bigSep (Finset.Ico n k) Φ = iprop(Φ n ∗ bigSep (Finset.Ico (n + 1) k) Φ) := by
  rw [show Finset.Ico n k = insert n (Finset.Ico (n + 1) k) from by
    ext i; rw [Finset.mem_insert, Finset.mem_Ico, Finset.mem_Ico]; omega, bigSep_insert (by rw [Finset.mem_Ico]; omega)]; rfl

section Facts
variable (κ : Dev nD × CK → ℕ) (κs : Key → ℕ)

theorem Env_cell (x : Dev nD × CK) : Env m κ κs ⊢ cellInv ER (ringRd m) (κ x) (kcell x) := by
  unfold Env; exact sep_elim_left.trans (bigSep_elim (Finset.mem_univ x))
theorem Env_slot (k : Key) : Env m κ κs ⊢ slotInv ES (κs k) k (Sl k) := by
  unfold Env; exact (sep_elim_right.trans sep_elim_left).trans (bigSep_elim (Finset.mem_univ k))
theorem Env_lev : Env m κ κs ⊢ levAts L lv := by
  unfold Env; exact (sep_elim_right.trans sep_elim_right).trans sep_elim_left
theorem Env_reached (x : Dev nD × CK) : Env m κ κs ⊢ reached ER (kcell x) 0 := by
  unfold Env; exact ((sep_elim_right.trans sep_elim_right).trans sep_elim_right).trans (bigSep_elim (Finset.mem_univ x))

/-- What a hop's start needs to know, out of what the neighbour told. -/
theorem RF_at (c : Dev nD) (ρ s : Bool) (r n : ℕ) (h : 2 * r + s.toNat ≤ n + 1) :
    RF c ρ n ⊢ (iprop(released ES (c, ρ, s) (r + 1) ∗ reached ER (recvCell c ρ s) r) : sProp 𝕄) := by
  unfold RF
  iintro ⟨#H1, #H2, #H3, #H4⟩
  cases s
  · simp only [Bool.toNat_false] at h
    isplitr
    · iapply (released_mono (E := ES) (show r + 1 ≤ (n + 1) / 2 + 1 by omega)); iexact H1
    · iapply (reached_mono (E := ER) (show r ≤ (n + 1) / 2 by omega)); iexact H2
  · simp only [Bool.toNat_true] at h
    isplitr
    · iapply (released_mono (E := ES) (show r + 1 ≤ n / 2 + 1 by omega)); iexact H3
    · iapply (reached_mono (E := ER) (show r ≤ n / 2 by omega)); iexact H4

theorem RF_mono (c : Dev nD) (ρ : Bool) {n n' : ℕ} (h : n ≤ n') : RF c ρ n' ⊢ (RF c ρ n : sProp 𝕄) := by
  unfold RF
  iintro ⟨#H1, #H2, #H3, #H4⟩
  isplitr; · iapply (released_mono (E := ES) (show (n + 1) / 2 + 1 ≤ (n' + 1) / 2 + 1 by omega)); iexact H1
  isplitr; · iapply (reached_mono (E := ER) (show (n + 1) / 2 ≤ (n' + 1) / 2 by omega)); iexact H2
  isplitr; · iapply (released_mono (E := ES) (show n / 2 + 1 ≤ n' / 2 + 1 by omega)); iexact H3
  iapply (reached_mono (E := ER) (show n / 2 ≤ n' / 2 by omega)); iexact H4

/-- One more release. -/
theorem RF_next (c : Dev nD) (ρ s : Bool) (r : ℕ) :
    iprop(RF c ρ (2 * r + s.toNat) ∗ released ES (c, ρ, s) (r + 2) ∗ reached ER (recvCell c ρ s) (r + 1)) ⊢ (RF c ρ (2 * r + s.toNat + 1) : sProp 𝕄) := by
  unfold RF
  cases s
  · simp only [Bool.toNat_false]
    rw [show (2 * r + 0 + 1 + 1) / 2 = r + 1 by omega, show (2 * r + 0 + 1) / 2 = r by omega, show (2 * r + 0) / 2 = r by omega]
    iintro ⟨⟨#H1, #H2, #H3, #H4⟩, #H5, #H6⟩
    isplitr; · iexact H5
    isplitr; · iexact H6
    isplitr; · iexact H3
    iexact H4
  · simp only [Bool.toNat_true]
    rw [show (2 * r + 1 + 1 + 1) / 2 = r + 1 by omega, show (2 * r + 1 + 1) / 2 = r + 1 by omega, show (2 * r + 1) / 2 = r by omega]
    iintro ⟨⟨#H1, #H2, #H3, #H4⟩, #H5, #H6⟩
    isplitr; · iexact H1
    isplitr; · iexact H2
    isplitr; · iexact H5
    iexact H6

end Facts

/-! ## The transfers' contents and credit -/

theorem cSq_credit (ρ s : Bool) : (cSq ρ s).view.dmaCredit = N := by unfold N; cases ρ <;> cases s <;> rfl
theorem oSq_credit (c : Dev nD) (ρ : Bool) (j : ℕ) : (oSq c ρ j).view.dmaCredit = N := by unfold N; rfl

theorem oSq_set (c : Dev nD) (ρ : Bool) (j : ℕ) : (oSq c ρ j).view.set = (oSl c ρ j).view.set := Memref.set_view_squeeze _ squeezes_S1x1024x1024_S1024x1024
theorem cSq_set (ρ s : Bool) : (cSq ρ s).view.set = (cSl ρ s).view.set := Memref.set_view_squeeze _ squeezes_S1x1024x1024_S1024x1024

/-- A landing slot filled by a transfer reads what the transfer's source read. -/
theorem land_read (c : Dev nD) (ρ s : Bool) (j : ℕ) (fd : (cSl ρ s).view.ty.Contents (Elt F)) (fs : (oSl c ρ j).view.ty.Contents (Elt F)) :
    (cSl ρ s).view.read (Elt F) ((cSq ρ s).view.write (Elt F) fd ((oSq c ρ j).view.read (Elt F) fs) Finset.univ) = (oSl c ρ j).view.read (Elt F) fs := by
  have e : (cSq ρ s).view.write (Elt F) fd ((oSq c ρ j).view.read (Elt F) fs) Finset.univ
      = (cSl ρ s).view.write (Elt F) fd ((oSl c ρ j).view.read (Elt F) fs) Finset.univ := by
    refine (View.write_reshape_univ (cSl ρ s).view _ fd ((oSq c ρ j).view.read (Elt F) fs)).trans ?_
    refine congrArg (fun w => (cSl ρ s).view.write (Elt F) fd w Finset.univ) ?_
    funext x
    show (oSl c ρ j).view.read (Elt F) fs (Shape.reshapeEquiv _ ((Shape.reshapeEquiv _).symm x)) = _
    rw [Equiv.apply_symm_apply]
  rw [e]
  exact View.read_write_univ _ _

theorem Sl_false (k : Key) : iprop(Sl k ∗ Sl k) ⊢ (False : sProp 𝕄) := by
  unfold Sl owns
  iintro ⟨⟨%v, %f, %hf, Hf⟩, ⟨%w, %g, %hg, Hg⟩⟩
  have hi := View.emb_mem_set (cSl k.2.1 k.2.2).view (fun a => ⟨0, by revert a; decide⟩)
  iapply (pointsTo_overlap_false (ℓ := (cSl k.2.1 k.2.2).view.loc (k.1 : Thread nD τ)) (q := fullShare) (I := (cSl k.2.1 k.2.2).view.set)
    (J := (cSl k.2.1 k.2.2).view.set) (f := f) (g := g) (i := (cSl k.2.1 k.2.2).view.emb (fun a => ⟨0, by revert a; decide⟩)) hi hi)
  isplitl [Hf] <;> iassumption

/-! ## The rules -/

section Rules
variable {α : Type} {Q : α → sProp (MT nD τ sig ℕ (Elt F) ℕ UU ℕ)} (κ : Dev nD × CK → ℕ) (κs : Key → ℕ) (c : Dev nD)

set_option maxHeartbeats 800000 in
/-- Hop `h` starts: the piece goes off to the neighbour's slot, which the neighbour has released. -/
theorem wp_start (ρ s : Bool) (r h n mm j : ℕ) (hh : h = 2 * r + s.toNat) (hj : j = h % 4) (hm : h ≤ mm + 1) (h3 : r < 3) (hn : n < 22)
    (hp : payAt n = .data ρ h) {d' : Dev nD} (hd : d' = dn ρ c) {src : Memref sig .tc .vmem S1024x1024 .bf16} {dst : Memref sig (Dev.tc d' : Thread nD τ).2.kind .vmem S1024x1024 .bf16}
    {sS sem : DmaSem sig} (hs : src = oSq c ρ j) (ht : dst = cSq ρ s) (h1 : sS = sendS ρ s) (h2 : sem = recvS ρ s)
    {hsc : dst.view.ref.isScScratch = false} {hsrc : src.view.WordExact} {hdst : dst.view.WordExact}
    {hsem : DmaTarget.Typed .vmem (.dma sem) (.remote (Dev.tc d' : Thread nD τ) dst (.dma sS) hsc)}
    {k : PUnit → Prog (TpuEff nD τ sig (Elt F) Λ₀ .tc) α} :
    Env m κ κs ⊢ iprop(Ow c n -∗ SV c ρ s r -∗ TK c ρ h -∗ OP c ρ j (V m ρ h c) -∗ RF (dn ρ c) ρ mm
      -∗ ((Ow c (n + 1) ∗ FA c ρ s r ∗ TK c ρ (h + 1)) -∗ WP c (k ⟨⟩) Q)
      -∗ WP c (.op (.enqueueDma src (.remote (Dev.tc d' : Thread nD τ) dst (.dma sS) hsc) (.dma sem) hsrc hdst hsem) k) Q) := by
  subst hh hd hs ht h1 h2 hj
  unfold Ow FA SV TK
  rw [Ico_split (show 2 * r + s.toNat < 6 by cases s <;> simp only [Bool.toNat_false, Bool.toNat_true] <;> omega)]
  unfold HopTok
  rw [sl_hop, div_hop]
  have hO := owed_step c n hn
  rw [hp] at hO
  simp only [Pay.to, Pay.kind, amt, sl_hop] at hO
  rw [hO]
  iintro #HE ⟨%W, HO⟩ ⟨Ha1, #Hr1, Ha2, #Hr2, Hrd⟩ ⟨⟨Ht1, Ht2, Hw, Hc⟩, HT⟩ Hp #HRF Hk
  ihave #Hx := (RF_at (F := F) (dn ρ c) ρ s r mm (by omega)) $$ HRF
  icases Hx with ⟨#Hrel, #Hrr⟩
  ihave #HIs := (Env_slot m κ κs (dn ρ c, ρ, s)) $$ HE
  imod (slot_take (E := ES) (ι := κs (dn ρ c, ρ, s)) (k := (dn ρ c, ρ, s)) (S := Sl (dn ρ c, ρ, s)) (Es := Set.univ) (Set.mem_univ _) (r + 1)) $$ [Hw] with HS
  · isplitr; · iexact HIs
    isplitr; · iexact Hrel
    iexact Hw
  unfold Sl OP owns
  icases HS with ⟨%v, %fd, %hfd, HS⟩
  icases Hp with ⟨%fs, %hfs, Hp⟩
  ihave #HI1 := (Env_cell m κ κs (c, .send ρ s)) $$ HE
  ihave #HI2 := (Env_cell m κ κs (dn ρ c, .recv ρ s)) $$ HE
  iapply (Rounds.wp_send_pointsTo 𝒱₀ ER (ringRd m) (c : Thread nD τ) none (c' := (dn ρ c : Thread nD τ)) (κ₁ := κ (c, .send ρ s)) (κ₂ := κ (dn ρ c, .recv ρ s))
    (src := oSq c ρ ((2 * r + s.toNat) % 4)) (dst := cSq ρ s) (sS := .dma (sendS ρ s)) (sem := .dma (recvS ρ s))
    (q := fullShare) (fs := fs) (fd := fd) (r₁ := r) (r₂ := r) (d₁ := 0) (d₂ := 0)
    (by rw [show ((c : Thread nD τ), SemLoc.dma (sendS ρ s)) = kcell (c, .send ρ s) from rfl, duties_eq]; unfold dut; dsimp only; rw [if_pos h3]; exact Finset.mem_singleton_self _)
    (by rw [show ((dn ρ c : Thread nD τ), SemLoc.dma (recvS ρ s)) = kcell (dn ρ c, .recv ρ s) from rfl, duties_eq]; unfold dut; dsimp only; rw [if_pos h3]; exact Finset.mem_singleton_self _)
    (ix n) 0 N (cSq_credit ρ s) (amount_eq m c (.send ρ s) r 0) (amount_eq m (dn ρ c) (.recv ρ s) r 0) (owed c (n + 1)) rfl
    (by
      rw [show ((c : Thread nD τ), SemLoc.dma (sendS ρ s)) = kcell (c, .send ρ s) from rfl, payload_eq, oSq_set]; unfold pay owns; dsimp only
      iintro H; iexists fs; isplitr; · ipureintro; exact hfs
      iexact H)
    (by
      rw [show ((dn ρ c : Thread nD τ), SemLoc.dma (recvS ρ s)) = kcell (dn ρ c, .recv ρ s) from rfl, payload_eq, cSq_set]; unfold pay owns; dsimp only
      rw [up_dn]
      iintro H; iexists _; isplitr
      · ipureintro; exact (land_read c ρ s _ fd fs).trans hfs
      iexact H)) $$ [HO Ht1 Ht2 HS Hp]
  · isplitr; · iexact HI1
    isplitr; · iexact HI2
    isplitl [Hp]; · rw [oSq_set]; iexact Hp
    isplitl [HS]; · rw [cSq_set]; iexact HS
    isplitl [HO]; · iexact HO
    isplitl [Ht1]; · iexact Ht1
    isplitr; · iexact Hr1
    isplitl [Ht2]; · iexact Ht2
    iexact Hrr
  iintro ⟨Hcs, HO⟩
  iapply Hk
  isplitl [HO]; · iexists W; iexact HO
  isplitr [HT]
  · isplitl [Ha1 Ha2 Hrd]
    · isplitl [Ha1]; · iexact Ha1
      isplitr; · iexact Hr1
      isplitl [Ha2]; · iexact Ha2
      isplitr; · iexact Hr2
      iexact Hrd
    isplitl [Hcs]; · iexact Hcs
    iexact Hc
  iexact HT

theorem dut_send (ρ s : Bool) (r : ℕ) (h3 : r < 3) : dut (.send ρ s) r = {0} := by unfold dut; dsimp only; rw [if_pos h3]
theorem dut_recv (ρ s : Bool) (r : ℕ) (h3 : r < 3) : dut (.recv ρ s) r = {0} := by unfold dut; dsimp only; rw [if_pos h3]

/-- A wait for the whole of a round with one duty. -/
theorem wp_wait1 (kk : CK) (q : DmaSem sig) (hq : osem kk = .dma q) (r n i : ℕ) (hdut : dut kk r = {0}) (hamt : amt kk = N) (hi : i ≤ n) (hn : n < 24)
    {sem : DmaSem sig} (h1 : sem = q) {src dst : Memref sig .tc .vmem S1024x1024 .bf16} {hsrc : src.view.WordExact} {hdst : dst.view.WordExact}
    (hN : dst.view.dmaCredit = N) {k : PUnit → Prog (TpuEff nD τ sig (Elt F) Λ₀ .tc) α} :
    Env m κ κs ⊢ iprop(Ow c n -∗ atPos ER (kcell (c, kk)) r ∅ 0 -∗ cred (tallyAt (kcell (c, kk)) i N)
      -∗ ((Ow c n ∗ atPos ER (kcell (c, kk)) (r + 1) ∅ 0 ∗ reached ER (kcell (c, kk)) (r + 1) ∗ pay m c kk r 0) -∗ WP c (k ⟨⟩) Q)
      -∗ WP c (.op (.waitDma2 sem src dst hsrc hdst) k) Q) := by
  subst h1
  have hcell : kcell (c, kk) = ((c : Thread nD τ), SemLoc.dma sem) := by unfold kcell; rw [hq]
  have hex : 0 + dst.view.dmaCredit = (ringRd (F := F) m).expect ((c : Thread nD τ), SemLoc.dma sem) r := by
    rw [← hcell, expect_eq, hdut, hamt, hN, Finset.card_singleton, Nat.zero_add, Nat.one_mul]
  have hpay : bigSep ((ringRd (F := F) m).duties ((c : Thread nD τ), SemLoc.dma sem) r \ ∅) (fun d => (ringRd (F := F) m).payload ((c : Thread nD τ), SemLoc.dma sem) r d)
      = pay m c kk r 0 := by
    rw [← hcell, Finset.sdiff_empty, duties_eq, hdut, bigSep_singleton, payload_eq]
  unfold Ow
  iintro #HE ⟨%W, HO⟩ Hat Hc Hk
  ihave #HI := (Env_cell m κ κs (c, kk)) $$ HE
  ihave #HL := (Env_lev m κ κs) $$ HE
  rw [hcell]
  iapply (Rounds.wp_wait_rest_token 𝒱₀ ER (ringRd m) (c : Thread nD τ) none (κ := κ (c, kk))
      (wpE_waitDma2_eq 𝒱₀ (c : Thread nD τ) none Set.univ) (Set.mem_univ _) i (O := owed c n) (W := W) (R := r) (m := 0) (T := ∅) hex) $$ [Hc HO Hat]
  · isplitr; · iexact HI
    isplitl [Hc]; · rw [hN]; iexact Hc
    isplitl [HO]; · iexact HO
    isplitr; · iapply (mayWait c (.dma sem) i n hi hn); iexact HL
    iexact Hat
  iintro ⟨HO, Hat, Hr, Hpay⟩
  iapply Hk
  isplitl [HO]; · iexists _; iexact HO
  isplitl [Hat]; · iexact Hat
  isplitl [Hr]; · iexact Hr
  iapply (Entails.of_eq hpay); iexact Hpay

/-- The wait for a hop's own transfer to have been read: the piece comes back. -/
theorem wp_waitS (ρ s : Bool) (r h n j : ℕ) (hh : h = 2 * r + s.toNat) (hj : j = h % 4) (h3 : r < 3) (hn : n < 24)
    {sem : DmaSem sig} (h1 : sem = sendS ρ s) {src dst : Memref sig .tc .vmem S1024x1024 .bf16} {hsrc : src.view.WordExact} {hdst : dst.view.WordExact}
    (hN : dst.view.dmaCredit = N) {k : PUnit → Prog (TpuEff nD τ sig (Elt F) Λ₀ .tc) α} :
    Env m κ κs ⊢ iprop(Ow c n -∗ FA c ρ s r -∗ ((Ow c n ∗ FB c ρ s r ∗ OP c ρ j (V m ρ h c)) -∗ WP c (k ⟨⟩) Q)
      -∗ WP c (.op (.waitDma2 sem src dst hsrc hdst) k) Q) := by
  subst hh hj
  unfold FA SV FB
  iintro #HE HO ⟨⟨Ha1, #Hr1, Ha2, #Hr2, Hrd⟩, Hcs, Hc⟩ Hk
  iapply (wp_wait1 m κ κs c (.send ρ s) (sendS ρ s) rfl r n 0 (dut_send ρ s r h3) rfl (Nat.zero_le _) hn h1 hN) $$ HE HO Ha1 Hcs
  iintro ⟨HO, Ha1, #Hr1', Hp⟩
  iapply Hk
  isplitl [HO]; · iexact HO
  isplitr [Hp]
  · isplitl [Ha1]; · iexact Ha1
    isplitr; · iexact Hr1'
    isplitl [Ha2]; · iexact Ha2
    isplitl [Hrd]; · iexact Hrd
    iexact Hc
  iapply (Entails.of_eq (show pay m c (.send ρ s) r 0 = OP c ρ ((2 * r + s.toNat) % 4) (V m ρ (2 * r + s.toNat) c) from rfl)); iexact Hp

/-- The wait for the neighbour's transfer: the slot comes filled. -/
theorem wp_waitR (ρ s : Bool) (r h n : ℕ) (hh : h = 2 * r + s.toNat) (h3 : r < 3) (hi : posD ρ h + 1 ≤ n) (hn : n < 24)
    {sem : DmaSem sig} (h1 : sem = recvS ρ s) {src dst : Memref sig .tc .vmem S1024x1024 .bf16} {hsrc : src.view.WordExact} {hdst : dst.view.WordExact}
    (hN : dst.view.dmaCredit = N) {k : PUnit → Prog (TpuEff nD τ sig (Elt F) Λ₀ .tc) α} :
    Env m κ κs ⊢ iprop(Ow c n -∗ FB c ρ s r -∗ ((Ow c n ∗ FC c ρ s r ∗ CS c ρ s (V m ρ h (up ρ c))) -∗ WP c (k ⟨⟩) Q)
      -∗ WP c (.op (.waitDma2 sem src dst hsrc hdst) k) Q) := by
  subst hh
  unfold FB FC
  iintro #HE HO ⟨Ha1, #Hr1, Ha2, Hrd, Hc⟩ Hk
  iapply (wp_wait1 m κ κs c (.recv ρ s) (recvS ρ s) rfl r n _ (dut_recv ρ s r h3) rfl hi hn h1 hN) $$ HE HO Ha2 Hc
  iintro ⟨HO, Ha2, #Hr2, Hp⟩
  iapply Hk
  isplitl [HO]; · iexact HO
  isplitr [Hp]
  · isplitl [Ha1]; · iexact Ha1
    isplitr; · iexact Hr1
    isplitl [Ha2]; · iexact Ha2
    isplitr; · iexact Hr2
    iexact Hrd
  iapply (Entails.of_eq (show pay m c (.recv ρ s) r 0 = CS c ρ s (V m ρ (2 * r + s.toNat) (up ρ c)) from rfl)); iexact Hp

/-- The slot released, and the sender told so. -/
theorem wp_credit (ρ s : Bool) (r h n : ℕ) (hh : h = 2 * r + s.toNat) (h4 : h < 4) (hn : n < 22) (hp : payAt n = .cred ρ h)
    {d' : Dev nD} (hd : d' = up ρ c) {sem : Sem sig} (h1 : sem = credS ρ) {k' : ℕ} (hk : 1 = k') (X : Vec F S1x1024x1024 .bf16)
    {k : PUnit → Prog (TpuEff nD τ sig (Elt F) Λ₀ .tc) α} :
    Env m κ κs ⊢ iprop(Ow c n -∗ FC c ρ s r -∗ CS c ρ s X -∗ CT c ρ h -∗ RF c ρ h
      -∗ ((Ow c (n + 1) ∗ SV c ρ s (r + 1) ∗ CT c ρ (h + 1) ∗ RF c ρ (h + 1)) -∗ WP c (k ⟨⟩) Q)
      -∗ WP c (.op (.semSignal (Dev.tc d' : Thread nD τ) sem k') k) Q) := by
  subst hd h1 hk
  unfold Ow FC CT SV
  rw [Ico_split h4]
  have hO := owed_step c n hn
  rw [hp] at hO
  simp only [Pay.to, Pay.kind, amt] at hO
  rw [hO]
  iintro #HE ⟨%W, HO⟩ ⟨Ha1, #Hr1, Ha2, #Hr2, Hrd⟩ HS ⟨Ht, HT⟩ #HRF Hk
  ihave #HIs := (Env_slot m κ κs (c, ρ, s)) $$ HE
  imod (slot_release (E := ES) (ι := κs (c, ρ, s)) (k := (c, ρ, s)) (S := Sl (c, ρ, s)) (Es := Set.univ) (Set.mem_univ _) (Sl_false _) (r + 1)) $$ [Hrd HS] with ⟨Hrd, #Hrel⟩
  · isplitr; · iexact HIs
    isplitl [Hrd]; · iexact Hrd
    unfold Sl CS; iexists X; iexact HS
  subst hh
  ihave #HRF' := (RF_next (F := F) c ρ s r) $$ [HRF Hrel Hr2]
  · isplitr; · iexact HRF
    isplitr; · iexact Hrel
    iexact Hr2
  ihave #HI := (Env_cell m κ κs (up ρ c, .cred ρ)) $$ HE
  iapply (Rounds.wp_signal 𝒱₀ ER (ringRd m) (c : Thread nD τ) none (dst := (up ρ c : Thread nD τ)) (sem := credS ρ) (κ := κ (up ρ c, .cred ρ)) (r := 0)
      (d := 2 * r + s.toNat)
      (by rw [show ((up ρ c : Thread nD τ), SemLoc.reg (credS ρ)) = kcell (up ρ c, .cred ρ) from rfl, duties_eq]; unfold dut; dsimp only; rw [if_pos rfl]; exact Finset.mem_range.mpr h4)
      (amount_eq m (up ρ c) (.cred ρ) 0 (2 * r + s.toNat)) (ix n) (owed c (n + 1)) rfl) $$ [HO Ht]
  · isplitr; · iexact HI
    isplitl [HO]; · iexact HO
    isplitl [Ht]; · iexact Ht
    isplitr
    · rw [show ((up ρ c : Thread nD τ), SemLoc.reg (credS ρ)) = kcell (up ρ c, .cred ρ) from rfl, payload_eq]; unfold pay; dsimp only
      rw [dn_up]; iexact HRF'
    · iapply (Env_reached m κ κs (up ρ c, .cred ρ)); iexact HE
  iintro HO
  iapply Hk
  isplitl [HO]; · iexists W; iexact HO
  isplitr [HT]
  · isplitl [Ha1]; · iexact Ha1
    isplitr; · iexact Hr1
    isplitl [Ha2]; · iexact Ha2
    isplitr; · iexact Hr2
    iexact Hrd
  isplitl [HT]; · iexact HT
  iexact HRF'

/-- The credit waits, all but the last: the neighbour has released at least `i + 1` times. -/
theorem wp_cwait (ρ : Bool) (i n : ℕ) (h3 : i < 3) (hi : posC ρ i + 1 ≤ n) (hn : n < 24) {sem : Sem sig} (h1 : sem = credS ρ) {k' : ℕ} (hk : 1 = k')
    {k : PUnit → Prog (TpuEff nD τ sig (Elt F) Λ₀ .tc) α} :
    Env m κ κs ⊢ iprop(Ow c n -∗ CW c ρ i -∗ ((Ow c n ∗ CW c ρ (i + 1) ∗ RF (dn ρ c) ρ (i + 1)) -∗ WP c (k ⟨⟩) Q)
      -∗ WP c (.op (.semWait sem k') k) Q) := by
  subst h1 hk
  unfold Ow CW
  rw [Ico_split (show i < 4 by omega)]
  iintro #HE ⟨%W, HO⟩ ⟨⟨%T, %hT, Hat, HT⟩, Hc, HC⟩ Hk
  ihave #HI := (Env_cell m κ κs (c, .cred ρ)) $$ HE
  ihave #HL := (Env_lev m κ κs) $$ HE
  iapply (Rounds.wp_wait 𝒱₀ ER (ringRd m) (c : Thread nD τ) none (κ := κ (c, .cred ρ)) (sm := .reg (credS ρ))
      (wpE_semWait_eq 𝒱₀ (c : Thread nD τ) none Set.univ) (Set.mem_univ _) (cr := Finsupp.single (posC ρ i + 1) 1) {(SemLoc.reg (credS ρ), posC ρ i + 1)}
      (O := owed c n) (W := W) (R := 0) (m := i) (T := T) (by rw [Util.total_single]) (image_single_subset _ _ _)) $$ [Hc HO Hat]
  · isplitr; · iexact HI
    isplitl [Hc]; · iexact Hc
    isplitl [HO]; · iexact HO
    isplitr; · iapply (mayWait c (.reg (credS ρ)) (posC ρ i + 1) n hi hn); iexact HL
    iexact Hat
  iintro %S
  iintro ⟨%hS, HO, Hat, Hp⟩
  have e : ((c : Thread nD τ), SemLoc.reg (credS ρ)) = kcell (c, .cred ρ) := rfl
  simp only [e, duties_eq, expect_eq, payload_eq] at hS
  rw [e]
  have hdut : dut (.cred ρ) 0 = Finset.range 4 := rfl
  rw [hdut] at hS
  obtain ⟨hTS, hS4, hcard⟩ := hS
  have hcS : i + 1 ≤ S.card := by
    have h4 : (Finset.range 4).card * amt (.cred ρ) = 4 := by rw [Finset.card_range]; rfl
    rw [h4, Finset.card_sdiff_of_subset hS4, Finset.card_range] at hcard
    omega
  ihave Hp2 := (Entails.of_eq (bigSep_congr (s := S \ T) (fun d _ => (payload_eq m c (.cred ρ) 0 d)))) $$ Hp
  ihave #HS := (show iprop(bigSep T (fun d => RF (dn ρ c) ρ (d + 1)) ∗ bigSep (S \ T) (fun d => pay m c (.cred ρ) 0 d)) ⊢ bigSep S (fun d => RF (dn ρ c) ρ (d + 1)) from
      Entails.of_eq (bigSep_sdiff_split hTS).symm) $$ [HT Hp2]
  · isplitl [HT] <;> iassumption
  iapply Hk
  isplitl [HO]; · iexists _; iexact HO
  isplitl [Hat HC]
  · isplitl [Hat]
    · iexists S
      isplitr; · ipureintro; exact ⟨hS4, hcS⟩
      isplitl [Hat]; · iexact Hat
      iexact HS
    iexact HC
  obtain ⟨d, hd, hid⟩ : ∃ d ∈ S, i ≤ d := by
    by_contra hno
    have hsub : S ⊆ Finset.range i := fun d hd => Finset.mem_range.mpr (by
      by_contra hlt
      exact hno ⟨d, hd, by omega⟩)
    have := Finset.card_le_card hsub
    rw [Finset.card_range] at this
    omega
  have hE : bigSep S (fun d => RF (dn ρ c) ρ (d + 1)) ⊢ (RF (dn ρ c) ρ (i + 1) : sProp 𝕄) :=
    (bigSep_elim hd).trans (RF_mono (dn ρ c) ρ (show i + 1 ≤ d + 1 by omega))
  iapply hE; iexact HS

/-- The last one: the credit cell is done with. -/
theorem wp_cwait_last (ρ : Bool) (n : ℕ) (hi : posC ρ 3 + 1 ≤ n) (hn : n < 24) {sem : Sem sig} (h1 : sem = credS ρ) {k' : ℕ} (hk : 1 = k')
    {k : PUnit → Prog (TpuEff nD τ sig (Elt F) Λ₀ .tc) α} :
    Env m κ κs ⊢ iprop(Ow c n -∗ CW c ρ 3 -∗ ((Ow c n ∗ atPos ER (credCell c ρ) 1 ∅ 0 ∗ RF (dn ρ c) ρ 4) -∗ WP c (k ⟨⟩) Q)
      -∗ WP c (.op (.semWait sem k') k) Q) := by
  subst h1 hk
  unfold Ow CW
  rw [Ico_split (show 3 < 4 by omega)]
  iintro #HE ⟨%W, HO⟩ ⟨⟨%T, %hT, Hat, HT⟩, Hc, HC⟩ Hk
  ihave #HI := (Env_cell m κ κs (c, .cred ρ)) $$ HE
  ihave #HL := (Env_lev m κ κs) $$ HE
  have e : ((c : Thread nD τ), SemLoc.reg (credS ρ)) = kcell (c, .cred ρ) := rfl
  iapply (Rounds.wp_wait_rest_token 𝒱₀ ER (ringRd m) (c : Thread nD τ) none (κ := κ (c, .cred ρ)) (sm := .reg (credS ρ))
      (wpE_semWait_eq 𝒱₀ (c : Thread nD τ) none Set.univ) (Set.mem_univ _) (posC ρ 3 + 1)
      (O := owed c n) (W := W) (R := 0) (m := 3) (T := T) (by rw [e, expect_eq]; rfl)) $$ [Hc HO Hat]
  · isplitr; · iexact HI
    isplitl [Hc]; · iexact Hc
    isplitl [HO]; · iexact HO
    isplitr; · iapply (mayWait c (.reg (credS ρ)) (posC ρ 3 + 1) n hi hn); iexact HL
    iexact Hat
  iintro ⟨HO, Hat, -, Hp⟩
  rw [e, duties_eq]
  ihave Hp2 := (Entails.of_eq (bigSep_congr (s := dut (.cred ρ) 0 \ T) (fun d _ => (payload_eq m c (.cred ρ) 0 d)))) $$ Hp
  ihave #HS := (show iprop(bigSep T (fun d => RF (dn ρ c) ρ (d + 1)) ∗ bigSep (dut (.cred ρ) 0 \ T) (fun d => pay m c (.cred ρ) 0 d)) ⊢ bigSep (Finset.range 4) (fun d => RF (dn ρ c) ρ (d + 1)) from
      Entails.of_eq (bigSep_sdiff_split hT.1).symm) $$ [HT Hp2]
  · isplitl [HT] <;> iassumption
  iapply Hk
  isplitl [HO]; · iexists _; iexact HO
  isplitl [Hat]; · iexact Hat
  have hE : bigSep (Finset.range 4) (fun d => RF (dn ρ c) ρ (d + 1)) ⊢ (RF (dn ρ c) ρ 4 : sProp 𝕄) :=
    bigSep_elim (show 3 ∈ Finset.range 4 by decide)
  iapply hE; iexact HS

/-- A barrier signal. -/
theorem wp_barS (ρ : Bool) (n : ℕ) (hn : n < 22) (hp : payAt n = .bar ρ) {d' : Dev nD} (hd : d' = up ρ c) {sem : Sem sig} (h1 : sem = barS) {k' : ℕ} (hk : 1 = k')
    {k : PUnit → Prog (TpuEff nD τ sig (Elt F) Λ₀ .tc) α} :
    Env m κ κs ⊢ iprop(Ow c n -∗ dutyTok ER (barCell (up ρ c)) 0 ρ.toNat -∗ RF c ρ 0 -∗ (Ow c (n + 1) -∗ WP c (k ⟨⟩) Q)
      -∗ WP c (.op (.semSignal (Dev.tc d' : Thread nD τ) sem k') k) Q) := by
  subst hd h1 hk
  unfold Ow
  have hO := owed_step c n hn
  rw [hp] at hO
  simp only [Pay.to, Pay.kind, amt] at hO
  rw [hO]
  have e : ((up ρ c : Thread nD τ), SemLoc.reg barS) = kcell (up ρ c, .bar) := rfl
  have hpay : pay m (up ρ c) .bar 0 ρ.toNat = (RF c ρ 0 : sProp 𝕄) := by
    unfold pay; dsimp only
    rw [show (ρ.toNat == 1) = ρ by cases ρ <;> rfl, dn_up]
  iintro #HE ⟨%W, HO⟩ Ht #HRF Hk
  ihave #HI := (Env_cell m κ κs (up ρ c, .bar)) $$ HE
  iapply (Rounds.wp_signal 𝒱₀ ER (ringRd m) (c : Thread nD τ) none (dst := (up ρ c : Thread nD τ)) (sem := barS) (κ := κ (up ρ c, .bar)) (r := 0)
      (d := ρ.toNat)
      (by rw [e, duties_eq]; unfold dut; dsimp only; rw [if_pos rfl]; cases ρ <;> decide)
      (amount_eq m (up ρ c) .bar 0 ρ.toNat) (ix n) (owed c (n + 1)) rfl) $$ [HO Ht]
  · isplitr; · iexact HI
    isplitl [HO]; · iexact HO
    isplitl [Ht]; · iexact Ht
    isplitr
    · rw [e, payload_eq, hpay]; iexact HRF
    · iapply (Env_reached m κ κs (up ρ c, .bar)); iexact HE
  iintro HO
  iapply Hk
  iexists W; iexact HO

/-- The barrier wait. -/
theorem wp_barW (n : ℕ) (h2 : 2 ≤ n) (hn : n < 24) {sem : Sem sig} (h1 : sem = barS) {k' : ℕ} (hk : 2 = k')
    {k : PUnit → Prog (TpuEff nD τ sig (Elt F) Λ₀ .tc) α} :
    Env m κ κs ⊢ iprop(Ow c n -∗ atPos ER (barCell c) 0 ∅ 0 -∗ cred (tallyAt (barCell c) 2 2)
      -∗ ((Ow c n ∗ atPos ER (barCell c) 1 ∅ 0 ∗ RF (dn false c) false 0 ∗ RF (dn true c) true 0) -∗ WP c (k ⟨⟩) Q)
      -∗ WP c (.op (.semWait sem k') k) Q) := by
  subst h1 hk
  unfold Ow
  iintro #HE ⟨%W, HO⟩ Hat Hc Hk
  ihave #HI := (Env_cell m κ κs (c, .bar)) $$ HE
  ihave #HL := (Env_lev m κ κs) $$ HE
  have e : ((c : Thread nD τ), SemLoc.reg barS) = kcell (c, .bar) := rfl
  have hpay : bigSep ((ringRd (F := F) m).duties ((c : Thread nD τ), SemLoc.reg barS) 0 \ ∅) (fun d => (ringRd (F := F) m).payload ((c : Thread nD τ), SemLoc.reg barS) 0 d)
      = iprop(RF (dn false c) false 0 ∗ RF (dn true c) true 0) := by
    rw [e, duties_eq, Finset.sdiff_empty, show dut .bar 0 = insert 0 {1} from rfl, bigSep_insert (by decide), bigSep_singleton, payload_eq, payload_eq]
    rfl
  iapply (Rounds.wp_wait_rest_token 𝒱₀ ER (ringRd m) (c : Thread nD τ) none (κ := κ (c, .bar)) (sm := .reg barS)
      (wpE_semWait_eq 𝒱₀ (c : Thread nD τ) none Set.univ) (Set.mem_univ _) 2
      (O := owed c n) (W := W) (R := 0) (m := 0) (T := ∅) (by rw [e, expect_eq]; rfl)) $$ [Hc HO Hat]
  · isplitr; · iexact HI
    isplitl [Hc]; · iexact Hc
    isplitl [HO]; · iexact HO
    isplitr; · iapply (mayWait c (.reg barS) 2 n h2 hn); iexact HL
    iexact Hat
  iintro ⟨HO, Hat, -, Hp⟩
  ihave Hp2 := (Entails.of_eq hpay) $$ Hp
  iapply Hk
  isplitl [HO]; · iexists _; iexact HO
  isplitl [Hat]; · iexact Hat
  iexact Hp2

end Rules

end Cert.RingProof

end
-- ==== Proof.Stage.lean ====
/-
# The staging copies, the taps and the weights

The kernel copies the rows of one half of a chunk of its input into one half of a staging buffer, waits, and loads
from it. Half `false` of the buffer is filled from row 8 on and has three zero rows before; half `true` is filled whole.
-/
module

public import proofs.«01_k».proof.Proof.Steps
public import Idealize.ShloMosaic.Lib.Pipeline.ValueKit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The memory -/

/-- Half `ρ` of the staging buffer. -/
def hOff (ρ : Bool) : Fin 3 → ℕ := ![if ρ then 1 else 0, 0, 0]
theorem hOff_inb (ρ : Bool) (a : Fin 3) : hOff ρ a + S1x1032x1024.size a ≤ S2x1032x1024.size a := by revert ρ a; decide
abbrev hRect (ρ : Bool) : Rect S2x1032x1024 := Rect.unit (s := S2x1032x1024) (hOff ρ) S1x1032x1024.size (hOff_inb ρ)
def HS (ρ : Bool) : Finset S2x1032x1024.Idx := (hRect ρ).set

/-- The share of the input each of the two copies reads with. -/
def xq (ρ : Bool) : PosShare TreeShare := if ρ then fullShare.right else fullShare.left

/-- The copies' ends. -/
abbrev dSl0 : Memref sig .tc .vmem S1x1024x1024 .f32 :=
  sM.slice (Rect.unit (s := S2x1032x1024) ![0, 8, 0] S1x1024x1024.size inb_S2x1032x1024_S1x1024x1024_0_8_0) (fun _ => rfl)
abbrev dSq0 : Memref sig .tc .vmem S1024x1024 .f32 := dSl0.squeeze S1024x1024 squeezes_S1x1024x1024_S1024x1024
abbrev dSl1 : Memref sig .tc .vmem S1x1032x1024 .f32 :=
  sM.slice (Rect.unit (s := S2x1032x1024) ![1, 0, 0] S1x1032x1024.size inb_S2x1032x1024_S1x1032x1024_1_0_0) (fun _ => rfl)
abbrev dSq1 : Memref sig .tc .vmem S1032x1024 .f32 := dSl1.squeeze S1032x1024 squeezes_S1x1032x1024_S1032x1024
abbrev xSl0 (off : Fin 3 → ℕ) (inb : ∀ a, off a + S1x1024x1024.size a ≤ S4x2048x1024.size a) : Memref sig .tc .hbm S1x1024x1024 .f32 :=
  xM.slice (Rect.unit (s := S4x2048x1024) off S1x1024x1024.size inb) (fun _ => rfl)
abbrev xSq0 (off : Fin 3 → ℕ) (inb : ∀ a, off a + S1x1024x1024.size a ≤ S4x2048x1024.size a) : Memref sig .tc .hbm S1024x1024 .f32 :=
  (xSl0 off inb).squeeze S1024x1024 squeezes_S1x1024x1024_S1024x1024
abbrev xSl1 (off : Fin 3 → ℕ) (inb : ∀ a, off a + S1x1032x1024.size a ≤ S4x2048x1024.size a) : Memref sig .tc .hbm S1x1032x1024 .f32 :=
  xM.slice (Rect.unit (s := S4x2048x1024) off S1x1032x1024.size inb) (fun _ => rfl)
abbrev xSq1 (off : Fin 3 → ℕ) (inb : ∀ a, off a + S1x1032x1024.size a ≤ S4x2048x1024.size a) : Memref sig .tc .hbm S1032x1024 .f32 :=
  (xSl1 off inb).squeeze S1032x1024 squeezes_S1x1032x1024_S1032x1024

/-- What one copy adds to its semaphore. -/
@[irreducible] def NS (ρ : Bool) : ℕ := if ρ then dSq1.view.dmaCredit else dSq0.view.dmaCredit
theorem NS_false : dSq0.view.dmaCredit = NS false := by unfold NS; rfl
theorem NS_true : dSq1.view.dmaCredit = NS true := by unfold NS; rfl
theorem NS_pos (ρ : Bool) : 0 < NS ρ := by
  unfold NS; cases ρ
  · exact View.dmaCredit_pos _ (by decide)
  · exact View.dmaCredit_pos _ (by decide)

abbrev SBuf (F : FTy → Type) : Type := (cc0_scratch2 : Ref sig .tc).ty.Contents (Elt F)

/-- The three rows before half `false`'s are zero. -/
def Zr (ρ : Bool) (f : SBuf F) : Prop :=
  ρ = false → ∀ i : S2x1032x1024.Idx, (i 0).val = 0 → 5 ≤ (i 1).val → (i 1).val < 8 → f i = (Scalar.ofBits .f32 0x00000000#32 : Elt F .f32)

/-- Where half `ρ`'s rows are loaded from. -/
def gOff (ρ : Bool) : Fin 3 → ℕ := ![if ρ then 1 else 0, 5, 0]
theorem gOff_inb (ρ : Bool) (a : Fin 3) : gOff ρ a + S1x1027x1024.size a ≤ S2x1032x1024.size a := by revert ρ a; decide
abbrev gRect (ρ : Bool) : Rect S2x1032x1024 := Rect.unit (s := S2x1032x1024) (gOff ρ) S1x1027x1024.size (gOff_inb ρ)

/-- Before the first copy. -/
def SP (c : Dev nD) (ρ : Bool) : sProp 𝕄 :=
  iprop(∃ f, semVal ((c : Thread nD τ), .dma (stageS ρ)) 0 ∗ (xM.view.loc (c : Thread nD τ) ↦{xq ρ} xst m c) ∗ (sM.view.loc (c : Thread nD τ) ↦[HS ρ]{fullShare} f))
/-- No copy under way. -/
def SF (c : Dev nD) (ρ : Bool) : sProp 𝕄 :=
  iprop(∃ f, ⌜Zr ρ f⌝ ∗ semVal ((c : Thread nD τ), .dma (stageS ρ)) 0 ∗ (xM.view.loc (c : Thread nD τ) ↦{xq ρ} xst m c) ∗ (sM.view.loc (c : Thread nD τ) ↦[HS ρ]{fullShare} f))
/-- The copy of half `ρ` of chunk `k` has landed. -/
def SD (c : Dev nD) (ρ : Bool) (k : Fin 4) : sProp 𝕄 :=
  iprop(∃ f, ⌜Zr ρ f ∧ sM.view.readAt (Elt F) (gRect ρ).toLoadRect f = seg m c k ρ⌝ ∗ semVal ((c : Thread nD τ), .dma (stageS ρ)) 0
    ∗ (xM.view.loc (c : Thread nD τ) ↦{xq ρ} xst m c) ∗ (sM.view.loc (c : Thread nD τ) ↦[HS ρ]{fullShare} f))
/-- It is under way. -/
def SG (c : Dev nD) (ρ : Bool) (k : Fin 4) : sProp 𝕄 :=
  iprop(∃ D, Transfers.Flight EC (c : Thread nD τ) (.dma (stageS ρ)) 0 (NS ρ) D ∗ (D -∗ semVal ((c : Thread nD τ), .dma (stageS ρ)) 0 -∗ SD m c ρ k))

/-! ## What a landed copy reads -/

/-- A copy between two squeezed views is the copy between the views. -/
theorem copy_sq {sp sp' : Space} {s s' : Shape} {e : EltTy} (A : Memref sig .tc sp s e) (B : Memref sig .tc sp' s e) (hq : s.Squeezes s')
    (fd : B.view.ty.Contents (Elt F)) (fs : A.view.ty.Contents (Elt F)) :
    (B.squeeze s' hq).view.write (Elt F) fd ((A.squeeze s' hq).view.read (Elt F) fs) Finset.univ = B.view.write (Elt F) fd (A.view.read (Elt F) fs) Finset.univ := by
  refine (View.write_reshape_univ B.view _ fd ((A.squeeze s' hq).view.read (Elt F) fs)).trans ?_
  refine congrArg (fun w => B.view.write (Elt F) fd w Finset.univ) ?_
  funext x
  show A.view.read (Elt F) fs (Shape.reshapeEquiv _ ((Shape.reshapeEquiv _).symm x)) = _
  rw [Equiv.apply_symm_apply]

abbrev W0 (f : SBuf F) (x : (main_arg0 : Ref sig .tc).ty.Contents (Elt F)) (off : Fin 3 → ℕ) (inb : ∀ a, off a + S1x1024x1024.size a ≤ S4x2048x1024.size a) : SBuf F :=
  dSl0.view.write (Elt F) f ((xSl0 off inb).view.read (Elt F) x) Finset.univ
abbrev W1 (f : SBuf F) (x : (main_arg0 : Ref sig .tc).ty.Contents (Elt F)) (off : Fin 3 → ℕ) (inb : ∀ a, off a + S1x1032x1024.size a ≤ S4x2048x1024.size a) : SBuf F :=
  dSl1.view.write (Elt F) f ((xSl1 off inb).view.read (Elt F) x) Finset.univ

theorem W0_out (f : SBuf F) (x) (off inb) (i : S2x1032x1024.Idx) (h : (i 1).val < 8) : W0 f x off inb i = f i := by
  refine View.write_of_not_mem (v := dSl0.view) (Val := Elt F) f ((xSl0 off inb).view.read (Elt F) x) Finset.univ (i := i) ?_
  intro hm
  obtain ⟨y, hy, e⟩ := Finset.mem_map.mp hm
  have h1 : (i 1).val = 8 + (y 1).val := by
    rw [← e]; exact ValueKit.rect_emb_unit_val (s := S2x1032x1024) ![0, 8, 0] S1x1024x1024.size inb_S2x1032x1024_S1x1024x1024_0_8_0 y 1
  omega

theorem W0_zr (f : SBuf F) (x) (off inb) (hz : Zr false f) : Zr false (W0 f x off inb) := fun _ i h0 h5 h8 =>
  (W0_out f x off inb i h8).trans (hz rfl i h0 h5 h8)

theorem W0_seg (c : Dev nD) (k : Fin 4) (f : SBuf F) (off inb) (h : off = ![k.val, 0, 0]) (hz : Zr false f) :
    sM.view.readAt (Elt F) (gRect false).toLoadRect (W0 f (xst m c) off inb) = seg m c k false := by
  subst h
  funext y
  show W0 f (xst m c) ![k.val, 0, 0] inb ((gRect false).emb y) = _
  have e0 : ((gRect false).emb y 0).val = 0 + (y 0).val := ValueKit.rect_emb_unit_val (s := S2x1032x1024) (gOff false) S1x1027x1024.size (gOff_inb false) y 0
  have e1 : ((gRect false).emb y 1).val = 5 + (y 1).val := ValueKit.rect_emb_unit_val (s := S2x1032x1024) (gOff false) S1x1027x1024.size (gOff_inb false) y 1
  have e2 : ((gRect false).emb y 2).val = 0 + (y 2).val := ValueKit.rect_emb_unit_val (s := S2x1032x1024) (gOff false) S1x1027x1024.size (gOff_inb false) y 2
  have y0 : (y 0).val < 1 := (y 0).isLt
  have y1 : (y 1).val < 1027 := (y 1).isLt
  unfold seg
  by_cases h3 : (y 1).val < 3
  · rw [if_pos ⟨rfl, h3⟩, W0_out _ _ _ _ _ (by omega)]
    exact hz rfl _ (by omega) (by omega) (by omega)
  · rw [if_neg (by intro hh; exact h3 hh.2)]
    let z : S1x1024x1024.Idx := fun a => match a with
      | ⟨0, _⟩ => ⟨0, Nat.one_pos⟩
      | ⟨1, _⟩ => ⟨(y 1).val - 3, by show (y 1).val - 3 < 1024; omega⟩
      | ⟨2, _⟩ => ⟨(y 2).val, (y 2).isLt⟩
    have ez : (gRect false).emb y = dSl0.view.emb z := by
      funext a
      refine Fin.ext ?_
      have ea : ((dSl0.view.emb z) a : ℕ) = (![0, 8, 0] : Fin 3 → ℕ) a + (z a).val :=
        ValueKit.rect_emb_unit_val (s := S2x1032x1024) ![0, 8, 0] S1x1024x1024.size inb_S2x1032x1024_S1x1024x1024_0_8_0 z a
      rw [ea]
      match a with
      | ⟨0, _⟩ => rw [show ((⟨0, _⟩ : Fin 3)) = 0 from rfl]; refine e0.trans ?_; show 0 + (y 0).val = 0 + 0; omega
      | ⟨1, _⟩ => refine e1.trans ?_; show 5 + (y 1).val = 8 + ((y 1).val - 3); omega
      | ⟨2, _⟩ => refine e2.trans ?_; rfl
    rw [ez]
    refine (View.write_emb_of_mem (v := dSl0.view) (Val := Elt F) f ((xSl0 ![k.val, 0, 0] inb).view.read (Elt F) (xst m c)) (Finset.mem_univ z)).trans ?_
    show xst m c ((xSl0 ![k.val, 0, 0] inb).view.emb z) = _
    refine congrArg (xst m c) ?_
    funext a
    refine Fin.ext ?_
    have ea : (((xSl0 ![k.val, 0, 0] inb).view.emb z) a : ℕ) = (![k.val, 0, 0] : Fin 3 → ℕ) a + (z a).val :=
      ValueKit.rect_emb_unit_val (s := S4x2048x1024) ![k.val, 0, 0] S1x1024x1024.size inb z a
    refine ea.trans ?_
    match a with
    | ⟨0, _⟩ => rfl
    | ⟨1, _⟩ => show 0 + ((y 1).val - 3) = ((y 1).val + 2045) % 2048; omega
    | ⟨2, _⟩ => exact Nat.zero_add _

theorem W1_seg (c : Dev nD) (k : Fin 4) (f : SBuf F) (off inb) (h : off = ![k.val, 1016, 0]) :
    sM.view.readAt (Elt F) (gRect true).toLoadRect (W1 f (xst m c) off inb) = seg m c k true := by
  subst h
  funext y
  show W1 f (xst m c) ![k.val, 1016, 0] inb ((gRect true).emb y) = _
  have e0 : ((gRect true).emb y 0).val = 1 + (y 0).val := ValueKit.rect_emb_unit_val (s := S2x1032x1024) (gOff true) S1x1027x1024.size (gOff_inb true) y 0
  have e1 : ((gRect true).emb y 1).val = 5 + (y 1).val := ValueKit.rect_emb_unit_val (s := S2x1032x1024) (gOff true) S1x1027x1024.size (gOff_inb true) y 1
  have e2 : ((gRect true).emb y 2).val = 0 + (y 2).val := ValueKit.rect_emb_unit_val (s := S2x1032x1024) (gOff true) S1x1027x1024.size (gOff_inb true) y 2
  have y0 : (y 0).val < 1 := (y 0).isLt
  have y1 : (y 1).val < 1027 := (y 1).isLt
  unfold seg
  rw [if_neg (by intro hh; exact Bool.noConfusion hh.1)]
  let z : S1x1032x1024.Idx := fun a => match a with
    | ⟨0, _⟩ => ⟨0, Nat.one_pos⟩
    | ⟨1, _⟩ => ⟨(y 1).val + 5, by show (y 1).val + 5 < 1032; omega⟩
    | ⟨2, _⟩ => ⟨(y 2).val, (y 2).isLt⟩
  have ez : (gRect true).emb y = dSl1.view.emb z := by
    funext a
    refine Fin.ext ?_
    have ea : ((dSl1.view.emb z) a : ℕ) = (![1, 0, 0] : Fin 3 → ℕ) a + (z a).val :=
      ValueKit.rect_emb_unit_val (s := S2x1032x1024) ![1, 0, 0] S1x1032x1024.size inb_S2x1032x1024_S1x1032x1024_1_0_0 z a
    rw [ea]
    match a with
    | ⟨0, _⟩ => refine e0.trans ?_; show 1 + (y 0).val = 1 + 0; omega
    | ⟨1, _⟩ => refine e1.trans ?_; show 5 + (y 1).val = 0 + ((y 1).val + 5); omega
    | ⟨2, _⟩ => refine e2.trans ?_; rfl
  rw [ez]
  refine (View.write_emb_of_mem (v := dSl1.view) (Val := Elt F) f ((xSl1 ![k.val, 1016, 0] inb).view.read (Elt F) (xst m c)) (Finset.mem_univ z)).trans ?_
  show xst m c ((xSl1 ![k.val, 1016, 0] inb).view.emb z) = _
  refine congrArg (xst m c) ?_
  funext a
  refine Fin.ext ?_
  have ea : (((xSl1 ![k.val, 1016, 0] inb).view.emb z) a : ℕ) = (![k.val, 1016, 0] : Fin 3 → ℕ) a + (z a).val :=
    ValueKit.rect_emb_unit_val (s := S4x2048x1024) ![k.val, 1016, 0] S1x1032x1024.size inb z a
  refine ea.trans ?_
  match a with
  | ⟨0, _⟩ => rfl
  | ⟨1, _⟩ => show 1016 + ((y 1).val + 5) = ((y 1).val + 1021) % 2048; omega
  | ⟨2, _⟩ => exact Nat.zero_add _

/-! ## Sets -/

theorem mem_HS (ρ : Bool) (i : S2x1032x1024.Idx) : i ∈ HS ρ ↔ (i 0).val = (if ρ then 1 else 0) := by
  unfold HS
  rw [Rect.mem_set_unit]
  constructor
  · intro h
    have := h 0
    cases ρ
    · have h2 : (i 0).val < 0 + 1 := (h 0).2
      show (i 0).val = 0; omega
    · have h1 : 1 ≤ (i 0).val := (h 0).1
      have h2 : (i 0).val < 1 + 1 := (h 0).2
      show (i 0).val = 1; omega
  · intro h a
    have i1 : (i 1).val < 1032 := (i 1).isLt
    have i2 : (i 2).val < 1024 := (i 2).isLt
    match a with
    | ⟨0, _⟩ => constructor
                · exact (Nat.le_of_eq h.symm)
                · show (i 0).val < (if ρ then 1 else 0) + 1; omega
    | ⟨1, _⟩ => exact ⟨Nat.zero_le _, by show (i 1).val < 0 + 1032; omega⟩
    | ⟨2, _⟩ => exact ⟨Nat.zero_le _, by show (i 2).val < 0 + 1024; omega⟩

theorem dSq0_set : dSq0.view.set ⊆ HS false := by
  rw [Memref.set_view_squeeze dSl0 squeezes_S1x1024x1024_S1024x1024]
  intro i hi
  obtain ⟨y, hy, e⟩ := Finset.mem_map.mp hi
  have h0 : (i 0).val = 0 + (y 0).val := by
    rw [← e]; exact ValueKit.rect_emb_unit_val (s := S2x1032x1024) ![0, 8, 0] S1x1024x1024.size inb_S2x1032x1024_S1x1024x1024_0_8_0 y 0
  have y0 : (y 0).val < 1 := (y 0).isLt
  rw [mem_HS]; show (i 0).val = 0; omega
theorem dSq1_set : dSq1.view.set ⊆ HS true := by
  rw [Memref.set_view_squeeze dSl1 squeezes_S1x1032x1024_S1032x1024]
  intro i hi
  obtain ⟨y, hy, e⟩ := Finset.mem_map.mp hi
  have h0 : (i 0).val = 1 + (y 0).val := by
    rw [← e]; exact ValueKit.rect_emb_unit_val (s := S2x1032x1024) ![1, 0, 0] S1x1032x1024.size inb_S2x1032x1024_S1x1032x1024_1_0_0 y 0
  have y0 : (y 0).val < 1 := (y 0).isLt
  rw [mem_HS]; show (i 0).val = 1; omega
theorem gRect_sub (ρ : Bool) : sM.view.setOn (gRect ρ).toLoadRect.set ⊆ HS ρ := by
  have e : sM.view.setOn (gRect ρ).toLoadRect.set = (sM.view.slice (gRect ρ)).set := (View.set_slice sM.view (gRect ρ)).symm
  rw [e]
  intro i hi
  obtain ⟨y, hy, e⟩ := Finset.mem_map.mp hi
  have h0 : (i 0).val = (if ρ then 1 else 0) + (y 0).val := by
    rw [← e]; exact ValueKit.rect_emb_unit_val (s := S2x1032x1024) (gOff ρ) S1x1027x1024.size (gOff_inb ρ) y 0
  have y0 : (y 0).val < 1 := (y 0).isLt
  rw [mem_HS]; omega

abbrev zRect : Rect S2x1032x1024 := Rect.unit (s := S2x1032x1024) ![0, 5, 0] S1x3x1024.size inb_S2x1032x1024_S1x3x1024_0_5_0
theorem zRect_set : (sM.access zRect).set ⊆ HS false := by
  intro i hi
  obtain ⟨y, hy, e⟩ := Finset.mem_map.mp hi
  have h0 : (i 0).val = 0 + (y 0).val := by
    rw [← e]; exact ValueKit.rect_emb_unit_val (s := S2x1032x1024) ![0, 5, 0] S1x3x1024.size inb_S2x1032x1024_S1x3x1024_0_5_0 y 0
  have y0 : (y 0).val < 1 := (y 0).isLt
  rw [mem_HS]; show (i 0).val = 0; omega
theorem zRect_sub : sM.view.setOn zRect.toLoadRect.set ⊆ HS false := by
  have e : sM.view.setOn zRect.toLoadRect.set = (sM.view.slice zRect).set := (View.set_slice sM.view zRect).symm
  rw [e]; exact zRect_set
theorem zRect_zr (f : SBuf F) : Zr false ((sM.access zRect).write (Elt F) f (k0_pay3 (F := F)) Finset.univ) := by
  intro _ i h0 h5 h8
  let z : S1x3x1024.Idx := fun a => match a with
    | ⟨0, _⟩ => ⟨0, Nat.one_pos⟩
    | ⟨1, _⟩ => ⟨(i 1).val - 5, by show (i 1).val - 5 < 3; omega⟩
    | ⟨2, _⟩ => ⟨(i 2).val, (i 2).isLt⟩
  have ez : i = (sM.access zRect).emb z := by
    funext a
    refine Fin.ext ?_
    have ea : (((sM.access zRect).emb z) a : ℕ) = (![0, 5, 0] : Fin 3 → ℕ) a + (z a).val :=
      ValueKit.rect_emb_unit_val (s := S2x1032x1024) ![0, 5, 0] S1x3x1024.size inb_S2x1032x1024_S1x3x1024_0_5_0 z a
    rw [ea]
    match a with
    | ⟨0, _⟩ => refine h0.trans ?_; rfl
    | ⟨1, _⟩ => show (i 1).val = 5 + ((i 1).val - 5); omega
    | ⟨2, _⟩ => show (i 2).val = 0 + (i 2).val; omega
  rw [ez]
  exact View.write_emb_of_mem (v := sM.access zRect) (Val := Elt F) f (k0_pay3 (F := F)) (Finset.mem_univ z)

theorem SP_SF (c : Dev nD) : SP m c true ⊢ SF m c true := by
  unfold SP SF
  iintro ⟨%f, H⟩
  iexists f
  isplitr; · ipureintro; intro h; exact Bool.noConfusion h
  iexact H
theorem SD_SF (c : Dev nD) (ρ : Bool) (k : Fin 4) : SD m c ρ k ⊢ SF m c ρ := by
  unfold SD SF
  iintro ⟨%f, %h, H⟩
  iexists f
  isplitr; · ipureintro; exact h.1
  iexact H

/-! ## The rules -/

section Rules
variable {α : Type} {Q : α → sProp (MT nD τ sig ℕ (Elt F) ℕ UU ℕ)} (κ : Dev nD × CK → ℕ) (κs : Key → ℕ) (c : Dev nD)

/-- The load before the zeros are written: what it reads is not used. -/
theorem wp_zld {hl : sM.view.LoadsAt zRect.toLoadRect} {k : Vec F S1x3x1024 .f32 → Prog (TpuEff nD τ sig (Elt F) Λ₀ .tc) α} :
    SP m c false ⊢ iprop((∀ v, SP m c false -∗ WP c (k v) Q) -∗ WP c (.op (.load sM zRect.toLoadRect hl) k) Q) := by
  unfold SP
  iintro ⟨%f, Hv, Hx, Hs⟩ Hk
  iapply (wp_load 𝒱₀ (c : Thread nD τ) none Set.univ (m := sM) (S := HS false) (f := f) zRect_sub) $$ Hs
  iintro Hs
  iapply Hk
  iexists f
  isplitl [Hv]; · iexact Hv
  isplitl [Hx] <;> iassumption

theorem wp_zst {hx : (sM.access zRect).Stores Finset.univ}
    {hm : (Finset.univ : Finset zRect.shape.Idx) = Finset.univ ∨ ∀ a, zRect.stride a = 1}
    {k : PUnit → Prog (TpuEff nD τ sig (Elt F) Λ₀ .tc) α} :
    SP m c false ⊢ iprop((SF m c false -∗ WP c (k ⟨⟩) Q) -∗ WP c (.op (.store sM zRect (k0_pay3 (F := F)) Finset.univ hx hm) k) Q) := by
  unfold SP SF
  iintro ⟨%f, Hv, Hx, Hs⟩ Hk
  iapply (wp_store 𝒱₀ (c : Thread nD τ) none Set.univ (m := sM) (r := zRect) (Mk := Finset.univ) (S := HS false) (f := f) zRect_set) $$ Hs
  iintro Hs
  iapply Hk
  iexists ((sM.access zRect).write (Elt F) f (k0_pay3 (F := F)) Finset.univ)
  isplitr; · ipureintro; exact zRect_zr f
  isplitl [Hv]; · iexact Hv
  isplitl [Hx] <;> iassumption

/-- A copy into half `false` starts. -/
theorem wp_stage0 (k : Fin 4) {off : Fin 3 → ℕ} {inb : ∀ a, off a + S1x1024x1024.size a ≤ S4x2048x1024.size a} (h : off = ![k.val, 0, 0])
    {sem : DmaSem sig} (h1 : sem = stageS false) {hsrc : (xSq0 off inb).view.WordExact}
    {hdst : (DmaTarget.here (nD := nD) (τ := τ) (p := .tc) dSq0).view.WordExact}
    {hsem : DmaTarget.Typed (nD := nD) (τ := τ) (p := .tc) .hbm (.dma sem) (.here dSq0)}
    {kt : PUnit → Prog (TpuEff nD τ sig (Elt F) Λ₀ .tc) α} :
    SF m c false ⊢ iprop((SG m c false k -∗ WP c (kt ⟨⟩) Q) -∗ WP c (.op (.enqueueDma (xSq0 off inb) (.here dSq0) (.dma sem) hsrc hdst hsem) kt) Q) := by
  subst h1
  unfold SF SG SD
  iintro ⟨%f, %hz, Hv, Hx, Hs⟩ Hk
  ihave Hx2 := (Entails.of_eq (show (xM.view.loc (c : Thread nD τ) ↦{xq false} xst m c : sProp 𝕄) = (xM.view.loc (c : Thread nD τ) ↦[Finset.univ]{xq false} xst m c) from rfl)) $$ Hx
  icases (pointsTo_split_subset (Finset.subset_univ (xSq0 off inb).view.set)).1 $$ Hx2 with ⟨Hx, Hxr⟩
  iapply (Transfers.wp_dmaLocal EC 𝒱₀ (c : Thread nD τ) none (src := xSq0 off inb) (via := .same) (dst := dSq0) (sm := .dma (stageS false))
    (q := xq false) (fs := xst m c) (Sd := HS false) (fd := f) 0 (NS false) NS_false (NS_pos false) dSq0_set) $$ [Hx Hs Hv]
  · isplitl [Hx]; · iexact Hx
    isplitl [Hs]; · iexact Hs
    iexact Hv
  iintro HF
  iapply Hk
  iexists _
  isplitl [HF]; · iexact HF
  iintro ⟨Hs, Hx⟩ Hv
  iexists (W0 f (xst m c) off inb)
  isplitr
  · ipureintro; exact ⟨W0_zr f _ off inb hz, W0_seg m c k f off inb h hz⟩
  isplitl [Hv]; · iexact Hv
  isplitl [Hx Hxr]
  · iapply (Entails.of_eq (show (xM.view.loc (c : Thread nD τ) ↦[Finset.univ]{xq false} xst m c : sProp 𝕄) = (xM.view.loc (c : Thread nD τ) ↦{xq false} xst m c) from rfl))
    iapply (pointsTo_split_subset (Finset.subset_univ (xSq0 off inb).view.set)).2
    isplitl [Hx]; · iexact Hx
    iexact Hxr
  iapply (Entails.of_eq (congrArg (fun f' : SBuf F => (sM.view.loc (c : Thread nD τ) ↦[HS false]{fullShare} f' : sProp 𝕄)) (copy_sq (xSl0 off inb) dSl0 squeezes_S1x1024x1024_S1024x1024 f (xst m c))))
  iexact Hs

/-- A copy into half `true` starts. -/
theorem wp_stage1 (k : Fin 4) {off : Fin 3 → ℕ} {inb : ∀ a, off a + S1x1032x1024.size a ≤ S4x2048x1024.size a} (h : off = ![k.val, 1016, 0])
    {sem : DmaSem sig} (h1 : sem = stageS true) {hsrc : (xSq1 off inb).view.WordExact}
    {hdst : (DmaTarget.here (nD := nD) (τ := τ) (p := .tc) dSq1).view.WordExact}
    {hsem : DmaTarget.Typed (nD := nD) (τ := τ) (p := .tc) .hbm (.dma sem) (.here dSq1)}
    {kt : PUnit → Prog (TpuEff nD τ sig (Elt F) Λ₀ .tc) α} :
    SF m c true ⊢ iprop((SG m c true k -∗ WP c (kt ⟨⟩) Q) -∗ WP c (.op (.enqueueDma (xSq1 off inb) (.here dSq1) (.dma sem) hsrc hdst hsem) kt) Q) := by
  subst h1
  unfold SF SG SD
  iintro ⟨%f, %hz, Hv, Hx, Hs⟩ Hk
  ihave Hx2 := (Entails.of_eq (show (xM.view.loc (c : Thread nD τ) ↦{xq true} xst m c : sProp 𝕄) = (xM.view.loc (c : Thread nD τ) ↦[Finset.univ]{xq true} xst m c) from rfl)) $$ Hx
  icases (pointsTo_split_subset (Finset.subset_univ (xSq1 off inb).view.set)).1 $$ Hx2 with ⟨Hx, Hxr⟩
  iapply (Transfers.wp_dmaLocal EC 𝒱₀ (c : Thread nD τ) none (src := xSq1 off inb) (via := .same) (dst := dSq1) (sm := .dma (stageS true))
    (q := xq true) (fs := xst m c) (Sd := HS true) (fd := f) 0 (NS true) NS_true (NS_pos true) dSq1_set) $$ [Hx Hs Hv]
  · isplitl [Hx]; · iexact Hx
    isplitl [Hs]; · iexact Hs
    iexact Hv
  iintro HF
  iapply Hk
  iexists _
  isplitl [HF]; · iexact HF
  iintro ⟨Hs, Hx⟩ Hv
  iexists (W1 f (xst m c) off inb)
  isplitr
  · ipureintro; exact ⟨fun h => Bool.noConfusion h, W1_seg m c k f off inb h⟩
  isplitl [Hv]; · iexact Hv
  isplitl [Hx Hxr]
  · iapply (Entails.of_eq (show (xM.view.loc (c : Thread nD τ) ↦[Finset.univ]{xq true} xst m c : sProp 𝕄) = (xM.view.loc (c : Thread nD τ) ↦{xq true} xst m c) from rfl))
    iapply (pointsTo_split_subset (Finset.subset_univ (xSq1 off inb).view.set)).2
    isplitl [Hx]; · iexact Hx
    iexact Hxr
  iapply (Entails.of_eq (congrArg (fun f' : SBuf F => (sM.view.loc (c : Thread nD τ) ↦[HS true]{fullShare} f' : sProp 𝕄)) (copy_sq (xSl1 off inb) dSl1 squeezes_S1x1032x1024_S1032x1024 f (xst m c))))
  iexact Hs

/-- A copy is waited for. -/
theorem wp_stageW (ρ : Bool) (kc : Fin 4) (n : ℕ) (hn : n < 24) {sem : DmaSem sig} (h1 : sem = stageS ρ) {s : Shape} {sp : Space} {src : Memref sig .tc sp s .f32}
    {dst : Memref sig .tc .vmem s .f32} {hsrc : src.view.WordExact} {hdst : dst.view.WordExact} (hN : dst.view.dmaCredit = NS ρ)
    {k : PUnit → Prog (TpuEff nD τ sig (Elt F) Λ₀ .tc) α} :
    Env m κ κs ⊢ iprop(Ow c n -∗ SG m c ρ kc -∗ ((Ow c n ∗ SD m c ρ kc) -∗ WP c (k ⟨⟩) Q)
      -∗ WP c (.op (.waitDma2 sem src dst hsrc hdst) k) Q) := by
  subst h1
  unfold SG Ow
  iintro #HE ⟨%W, HO⟩ ⟨%D, HF, HD⟩ Hk
  ihave #Hl := (Env_lev m κ κs) $$ HE
  iapply (Transfers.wp_waitLocalO EC 𝒱₀ (c : Thread nD τ) none 0 hN (D := D) (O := owed c n) (W := W)) $$ [HF HO]
  · isplitl [HF]; · iexact HF
    isplitl [HO]; · iexact HO
    iapply (mayWait c _ 0 n (Nat.zero_le _) hn); iexact Hl
  iintro ⟨H, Hv, HO⟩
  iapply Hk
  isplitl [HO]; · iexists _; iexact HO
  iapply HD $$ H Hv

/-- The rows are loaded. -/
theorem wp_seg (ρ : Bool) (kc : Fin 4) {off : Fin 3 → ℕ} {inb : ∀ a, off a + S1x1027x1024.size a ≤ S2x1032x1024.size a} (h : off = gOff ρ)
    {hl : sM.view.LoadsAt (Rect.unit (s := S2x1032x1024) off S1x1027x1024.size inb).toLoadRect}
    {k : Vec F S1x1027x1024 .f32 → Prog (TpuEff nD τ sig (Elt F) Λ₀ .tc) α} :
    SD m c ρ kc ⊢ iprop((SF m c ρ -∗ WP c (k (seg m c kc ρ)) Q)
      -∗ WP c (.op (.load sM (Rect.unit (s := S2x1032x1024) off S1x1027x1024.size inb).toLoadRect hl) k) Q) := by
  subst h
  unfold SD SF
  iintro ⟨%f, %hf, Hv, Hx, Hs⟩ Hk
  iapply (wp_load 𝒱₀ (c : Thread nD τ) none Set.univ (m := sM) (S := HS ρ) (f := f) (gRect_sub ρ)) $$ Hs
  iintro Hs
  rw [hf.2]
  iapply Hk
  iexists f
  isplitr; · ipureintro; exact hf.1
  isplitl [Hv]; · iexact Hv
  isplitl [Hx] <;> iassumption

/-- The taps and the weights, as device `c` holds them. -/
def KT : sProp 𝕄 := iprop(kM.view.loc (c : Thread nD τ) ↦[Finset.univ]{fullShare} kst m c)
def WT : sProp 𝕄 := iprop(wM.view.loc (c : Thread nD τ) ↦[Finset.univ]{fullShare} wst m c)

theorem wp_tap {off : Fin 2 → ℕ} {inb : ∀ a, off a + S1x1024.size a ≤ S4x1024.size a}
    {hl : kM.view.LoadsAt (Rect.unit (s := S4x1024) off S1x1024.size inb).toLoadRect}
    {k : Vec F S1x1024 .bf16 → Prog (TpuEff nD τ sig (Elt F) Λ₀ .tc) α} :
    KT m c ⊢ iprop((KT m c -∗ WP c (k (krow m c off inb)) Q)
      -∗ WP c (.op (.load kM (Rect.unit (s := S4x1024) off S1x1024.size inb).toLoadRect hl) k) Q) := by
  unfold KT
  iintro H Hk
  iapply (wp_load 𝒱₀ (c : Thread nD τ) none Set.univ (m := kM) (S := Finset.univ) (f := kst m c) (Finset.subset_univ _)) $$ H
  iintro H
  iapply Hk; iexact H

theorem wp_wt {hl : wM.view.LoadsAt (Rect.unit (s := S1024x1024) ![0, 0] S1024x1024.size inb_S1024x1024_S1024x1024_0_0).toLoadRect}
    {k : Vec F S1024x1024 .bf16 → Prog (TpuEff nD τ sig (Elt F) Λ₀ .tc) α} :
    WT m c ⊢ iprop((WT m c -∗ WP c (k (wst m c)) Q)
      -∗ WP c (.op (.load wM (Rect.unit (s := S1024x1024) ![0, 0] S1024x1024.size inb_S1024x1024_S1024x1024_0_0).toLoadRect hl) k) Q) := by
  unfold WT
  iintro H Hk
  iapply (wp_load 𝒱₀ (c : Thread nD τ) none Set.univ (m := wM) (S := Finset.univ) (f := wst m c) (Finset.subset_univ _)) $$ H
  iintro H
  rw [show wM.view.readAt (Elt F) (Rect.unit (s := S1024x1024) ![0, 0] S1024x1024.size inb_S1024x1024_S1024x1024_0_0).toLoadRect (wst m c) = wst m c from
    Memref.readAt_unit_zero (Elt F) cc0_stg1_0 (by funext a; revert a; decide) _ (wst m c)]
  iapply Hk; iexact H

end Rules

end Cert.RingProof

end
-- ==== Proof.Names.lean ====
/-
# What the kernel's offsets, devices and semaphores are

The printed kernel computes its offsets and its neighbours from the device number by word arithmetic. Here each of them
is one of the names of the protocol: a piece of the output, a chunk of the input, a neighbour on a ring.
-/
module

public import proofs.«01_k».proof.Proof.Stage

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

/-! ## Offsets of output pieces -/

theorem off3_ (c : Dev nD) : k0_off3 c = oOff c false 0 := by revert c; decide
theorem off6_ (c : Dev nD) : k0_off6 c = oOff c true 0 := by revert c; decide
theorem off9_ (c : Dev nD) : k0_off9 c = oOff c false 1 := by revert c; decide
theorem off12_1 (c : Dev nD) : k0_off12 c 1#32 = oOff c true 1 := by revert c; decide
theorem off14_2 (c : Dev nD) : k0_off14 c 2#32 = oOff c false 2 := by revert c; decide
theorem off12_2 (c : Dev nD) : k0_off12 c 2#32 = oOff c true 2 := by revert c; decide
theorem off14_1 (c : Dev nD) : k0_off14 c 1#32 = oOff c false 3 := by revert c; decide
theorem off16_ (c : Dev nD) : k0_off16 c = oOff c true 3 := by revert c; decide
theorem off5_0 (c : Dev nD) : k0_off5 c 0#32 = oOff c false 0 := by revert c; decide
theorem off5_m1 (c : Dev nD) : k0_off5 c 4294967295#32 = oOff c false 1 := by revert c; decide
theorem off5_m2 (c : Dev nD) : k0_off5 c 4294967294#32 = oOff c false 2 := by revert c; decide
theorem off5_1 (c : Dev nD) : k0_off5 c 1#32 = oOff c false 3 := by revert c; decide
theorem off8_0 (c : Dev nD) : k0_off8 c 0#32 = oOff c true 0 := by revert c; decide
theorem off8_1 (c : Dev nD) : k0_off8 c 1#32 = oOff c true 1 := by revert c; decide
theorem off8_2 (c : Dev nD) : k0_off8 c 2#32 = oOff c true 2 := by revert c; decide
theorem off8_m1 (c : Dev nD) : k0_off8 c 4294967295#32 = oOff c true 3 := by revert c; decide
theorem off11_0 (c : Dev nD) : k0_off11 c 0#32 = oOff c false 1 := by revert c; decide
theorem off11_m1 (c : Dev nD) : k0_off11 c 4294967295#32 = oOff c false 2 := by revert c; decide
theorem off11_m2 (c : Dev nD) : k0_off11 c 4294967294#32 = oOff c false 3 := by revert c; decide
theorem off11_1 (c : Dev nD) : k0_off11 c 1#32 = oOff c false 0 := by revert c; decide
theorem off13_0 (c : Dev nD) : k0_off13 c 0#32 = oOff c true 1 := by revert c; decide
theorem off13_1 (c : Dev nD) : k0_off13 c 1#32 = oOff c true 2 := by revert c; decide
theorem off13_2 (c : Dev nD) : k0_off13 c 2#32 = oOff c true 3 := by revert c; decide
theorem off13_m1 (c : Dev nD) : k0_off13 c 4294967295#32 = oOff c true 0 := by revert c; decide

/-! ## Offsets of input rows -/

/-- The chunk of piece `j`, as an index. -/
def chF (c : Dev nD) (ρ : Bool) (j : ℕ) : Fin 4 := ⟨ch c ρ j, ch_lt c ρ j⟩
theorem off1_ (c : Dev nD) : k0_off1 c = ![(chF c false 0).val, 0, 0] := by revert c; decide
theorem off4_ (c : Dev nD) : k0_off4 c = ![(chF c false 1).val, 0, 0] := by revert c; decide
theorem off10_2 (c : Dev nD) : k0_off10 c 2#32 = ![(chF c false 2).val, 0, 0] := by revert c; decide
theorem off10_1 (c : Dev nD) : k0_off10 c 1#32 = ![(chF c false 3).val, 0, 0] := by revert c; decide
theorem off2_ (c : Dev nD) : k0_off2 c = ![(chF c true 0).val, 1016, 0] := by revert c; decide
theorem off7_1 (c : Dev nD) : k0_off7 c 1#32 = ![(chF c true 1).val, 1016, 0] := by revert c; decide
theorem off7_2 (c : Dev nD) : k0_off7 c 2#32 = ![(chF c true 2).val, 1016, 0] := by revert c; decide
theorem off15_ (c : Dev nD) : k0_off15 c = ![(chF c true 3).val, 1016, 0] := by revert c; decide

/-! ## Neighbours -/

theorem dev1 (c : Dev nD) : (⟨k0_dev1 c, k0_dev1_lt c⟩ : Dev nD) = up false c := by revert c; decide
theorem dev2 (c : Dev nD) : (⟨k0_dev2 c, k0_dev2_lt c⟩ : Dev nD) = up true c := by revert c; decide
theorem dev3 (c : Dev nD) : (⟨k0_dev3 c, k0_dev3_lt c⟩ : Dev nD) = dn false c := by revert c; decide
theorem dev4 (c : Dev nD) : (⟨k0_dev4 c, k0_dev4_lt c⟩ : Dev nD) = dn true c := by revert c; decide
theorem dev5 (c : Dev nD) : (⟨k0_dev5 c, k0_dev5_lt c⟩ : Dev nD) = up false c := by revert c; decide
theorem dev6 (c : Dev nD) : (⟨k0_dev6 c, k0_dev6_lt c⟩ : Dev nD) = dn false c := by revert c; decide
theorem dev7 (c : Dev nD) : (⟨k0_dev7 c, k0_dev7_lt c⟩ : Dev nD) = up true c := by revert c; decide
theorem dev8 (c : Dev nD) : (⟨k0_dev8 c, k0_dev8_lt c⟩ : Dev nD) = dn true c := by revert c; decide
theorem dev9 (c : Dev nD) : (⟨k0_dev9 c, k0_dev9_lt c⟩ : Dev nD) = up false c := by revert c; decide
theorem dev10 (c : Dev nD) : (⟨k0_dev10 c, k0_dev10_lt c⟩ : Dev nD) = dn false c := by revert c; decide
theorem dev11 (c : Dev nD) : (⟨k0_dev11 c, k0_dev11_lt c⟩ : Dev nD) = up true c := by revert c; decide
theorem dev12 (c : Dev nD) : (⟨k0_dev12 c, k0_dev12_lt c⟩ : Dev nD) = dn true c := by revert c; decide
theorem dev13 (c : Dev nD) : (⟨k0_dev13 c, k0_dev13_lt c⟩ : Dev nD) = up false c := by revert c; decide
theorem dev14 (c : Dev nD) : (⟨k0_dev14 c, k0_dev14_lt c⟩ : Dev nD) = dn false c := by revert c; decide
theorem dev15 (c : Dev nD) : (⟨k0_dev15 c, k0_dev15_lt c⟩ : Dev nD) = up true c := by revert c; decide
theorem dev16 (c : Dev nD) : (⟨k0_dev16 c, k0_dev16_lt c⟩ : Dev nD) = dn true c := by revert c; decide
theorem dev17 (c : Dev nD) : (⟨k0_dev17 c, k0_dev17_lt c⟩ : Dev nD) = up false c := by revert c; decide
theorem dev18 (c : Dev nD) : (⟨k0_dev18 c, k0_dev18_lt c⟩ : Dev nD) = dn false c := by revert c; decide
theorem dev19 (c : Dev nD) : (⟨k0_dev19 c, k0_dev19_lt c⟩ : Dev nD) = up true c := by revert c; decide
theorem dev20 (c : Dev nD) : (⟨k0_dev20 c, k0_dev20_lt c⟩ : Dev nD) = dn true c := by revert c; decide
theorem dev21 (c : Dev nD) : (⟨k0_dev21 c, k0_dev21_lt c⟩ : Dev nD) = dn false c := by revert c; decide
theorem dev22 (c : Dev nD) : (⟨k0_dev22 c, k0_dev22_lt c⟩ : Dev nD) = dn true c := by revert c; decide

/-! ## Views -/

theorem sq_o {c : Dev nD} {ρ : Bool} {j : ℕ} {off : Fin 3 → ℕ} {inb : ∀ a, off a + S1x1024x1024.size a ≤ S4x2048x1024.size a} (h : off = oOff c ρ j) :
    (oM.slice (Rect.unit (s := S4x2048x1024) off S1x1024x1024.size inb) (fun _ => rfl)).squeeze S1024x1024 squeezes_S1x1024x1024_S1024x1024 = oSq c ρ j := by
  subst h; rfl
theorem cr_o {c : Dev nD} {ρ : Bool} {j : ℕ} {off : Fin 3 → ℕ} {inb : ∀ a, off a + S1x1024x1024.size a ≤ S4x2048x1024.size a} (h : off = oOff c ρ j) :
    ((oM.slice (Rect.unit (s := S4x2048x1024) off S1x1024x1024.size inb) (fun _ => rfl)).squeeze S1024x1024 squeezes_S1x1024x1024_S1024x1024).view.dmaCredit = N := by
  subst h; exact oSq_credit c ρ j

abbrev aM : Memref sig .tc .vmem S2x1024x1024 .bf16 := Memref.whole cc0_scratch0
abbrev bM : Memref sig .tc .vmem S2x1024x1024 .bf16 := Memref.whole cc0_scratch1

/-! ## Values -/

variable (m : (ℓ : Loc nD τ sig) → Buf (Elt F) ℓ)

/-- Device `c`'s own partial product for piece `j` of ring `ρ`. -/
def ys (c : Dev nD) (ρ : Bool) (j : ℕ) : Vec F S1x1024x1024 .bf16 := yv m c (chF c ρ j) ρ

theorem V_acc (c : Dev nD) (ρ : Bool) (h : ℕ) (h3 : h < 3) : k0_pay16 (ys m c ρ (h + 1)) (V m ρ h (up ρ c)) = V m ρ (h + 1) c := (if_pos h3).symm
theorem V_cp (c : Dev nD) (ρ : Bool) (h : ℕ) (h3 : ¬ h < 3) : V m ρ h (up ρ c) = V m ρ (h + 1) c := (if_neg h3).symm

theorem OP_acc (c : Dev nD) (ρ : Bool) (j h : ℕ) (h3 : h < 3) :
    OP c ρ j (k0_pay16 (ys m c ρ (h + 1)) (V m ρ h (up ρ c))) ⊢ (OP c ρ j (V m ρ (h + 1) c) : sProp 𝕄) := by rw [V_acc m c ρ h h3]
theorem OP_cp (c : Dev nD) (ρ : Bool) (j h : ℕ) (h3 : ¬ h < 3) (X : Vec F S1x1024x1024 .bf16) (hX : X = V m ρ h (up ρ c)) :
    OP c ρ j X ⊢ (OP c ρ j (V m ρ (h + 1) c) : sProp 𝕄) := by rw [hX, V_cp m c ρ h h3]

theorem pay1_eq (v : Vec F S1x1024x1024 .bf16) : k0_pay1 v = v := shapeCast_shapeCast v _ _
theorem pay44_eq (v : Vec F S1x1024x1024 .bf16) : k0_pay44 v = v := pay1_eq v
theorem pay46_eq (v : Vec F S1x1024x1024 .bf16) : k0_pay46 (k0_pay45 v) = v := pay1_eq v
theorem pay47_eq (v : Vec F S1x1024x1024 .bf16) : k0_pay47 v = v := pay1_eq v
theorem pay48_eq (v : Vec F S1x1024x1024 .bf16) : k0_pay48 v = v := pay1_eq v
theorem pay49_eq (v : Vec F S1x1024x1024 .bf16) : k0_pay49 v = v := pay1_eq v

end Cert.RingProof

end
-- ==== Proof.Parts.lean ====
/-
# The kernel's body, part by part

The printed body comes in 31 parts and a tail. Each part is run here once, at a symbolic device, from what it needs to
what it leaves, over any float values.
-/
module

public import proofs.«01_k».proof.Proof.Names

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × CK → ℕ) (κs : Key → ℕ) (c : Dev nD)
  {h0 : xM.IsWhole} {h1 : kM.IsWhole} {h2 : wM.IsWhole} {h3 : oM.IsWhole} {h4 : aM.IsWhole} {h5 : bM.IsWhole} {h6 : sM.IsWhole}

/-- The four tap rows. -/
abbrev kr0 : Vec F S1x1024 .bf16 := krow m c ![0, 0] inb_S4x1024_S1x1024_0_0
abbrev kr1 : Vec F S1x1024 .bf16 := krow m c ![1, 0] inb_S4x1024_S1x1024_1_0
abbrev kr2 : Vec F S1x1024 .bf16 := krow m c ![2, 0] inb_S4x1024_S1x1024_2_0
abbrev kr3 : Vec F S1x1024 .bf16 := krow m c ![3, 0] inb_S4x1024_S1x1024_3_0

theorem OP_eq (ρ : Bool) (j : ℕ) (X Y : Vec F S1x1024x1024 .bf16) (h : X = Y) : OP c ρ j X ⊢ (OP c ρ j Y : sProp 𝕄) := by rw [h]

/-! The parts spell the partial product in several ways; each is `yv`. -/

section Spell
variable (k : Fin 4) (ρ : Bool)
theorem yv_8 : k0_pay8 (k0_pay2 (wst m c)) (k0_pay4 (seg m c k ρ)) (k0_pay5 (seg m c k ρ) (kr0 m c) (kr1 m c)) (k0_pay6 (seg m c k ρ)) (k0_pay7 (kr2 m c)) (kr3 m c)
    = yv m c k ρ := rfl
theorem yv_13 : k0_pay13 (k0_pay2 (wst m c)) (k0_pay10 (seg m c k ρ) (kr0 m c) (kr1 m c) (kr2 m c)) (k0_pay11 (seg m c k ρ)) (k0_pay12 (kr3 m c)) = yv m c k ρ := rfl
theorem yv_15 : k0_pay15 (k0_pay14 (k0_pay2 (wst m c)) (seg m c k ρ) (kr0 m c) (kr1 m c) (kr2 m c) (kr3 m c)) = yv m c k ρ := rfl
theorem yv_19 : k0_pay19 (k0_pay2 (wst m c)) (k0_pay17 (seg m c k ρ) (kr0 m c) (kr1 m c) (kr2 m c) (kr3 m c)) (k0_pay18 (seg m c k ρ) (kr0 m c) (kr1 m c) (kr2 m c) (kr3 m c))
    = yv m c k ρ := rfl
theorem yv_25 : k0_pay25 (k0_pay2 (wst m c)) (k0_pay22 (seg m c k ρ) (kr0 m c) (kr1 m c) (kr2 m c)) (k0_pay23 (seg m c k ρ)) (k0_pay24 (kr3 m c)) = yv m c k ρ := rfl
theorem yv_31 : k0_pay31 (k0_pay2 (wst m c)) (k0_pay27 (seg m c k ρ)) (k0_pay28 (seg m c k ρ) (kr0 m c) (kr1 m c)) (k0_pay29 (seg m c k ρ)) (k0_pay30 (kr2 m c)) (kr3 m c)
    = yv m c k ρ := rfl
theorem yv_36 : k0_pay36 (k0_pay2 (wst m c)) (k0_pay33 (seg m c k ρ)) (k0_pay34 (seg m c k ρ) (kr0 m c)) (k0_pay35 (seg m c k ρ)) (kr1 m c) (kr2 m c) (kr3 m c)
    = yv m c k ρ := rfl
theorem yv_42 : k0_pay42 (k0_pay2 (wst m c)) (k0_pay38 (seg m c k ρ)) (k0_pay39 (seg m c k ρ) (kr0 m c)) (k0_pay40 (seg m c k ρ)) (k0_pay41 (kr1 m c)) (kr2 m c) (kr3 m c)
    = yv m c k ρ := rfl
end Spell

/-- So is the sum of what arrived and the partial product. -/
theorem OP_acc' (ρ : Bool) (j h : ℕ) (h3 : h < 3) (f : Vec F S1x1024x1024 .bf16 → Vec F S1x1024x1024 .bf16 → Vec F S1x1024x1024 .bf16) (hf : f = k0_pay16) :
    OP c ρ j (f (ys m c ρ (h + 1)) (V m ρ h (up ρ c))) ⊢ (OP c ρ j (V m ρ (h + 1) c) : sProp 𝕄) := by subst hf; exact OP_acc m c ρ j h h3

/-- Part 1: the weights are loaded, the zero rows written, and the first two copies started. -/
theorem part1 {Q : (Σ' (d0 : Dev nD) (v2 : BitVec 32) (v5 : BitVec 32) (v7 : BitVec 32) (v9 : BitVec 32) (v11 : FVec F S1024x1024 .bf16), Sems sig S_) → sProp (MT nD τ sig ℕ (Elt F) ℕ UU ℕ)} :
    Env m κ κs ⊢ iprop(WT m c -∗ SP m c false -∗ SP m c true
      -∗ (WT m c -∗ SG m c false (chF c false 0) -∗ SG m c true (chF c true 0) -∗ ∀ v2 v5 v7 v9, Q ⟨c, v2, v5, v7, v9, k0_pay2 (wst m c), SemArray.scalar (sig.barrier 0 rfl)⟩)
      -∗ WP c (k0_part1 xM h0 kM h1 wM h2 oM h3 aM h4 bM h5 sM h6 cc0_scratch3 cc0_scratch4 cc0_scratch5 cc0_scratch6) Q) := by
  rw [k0_part1_eq_skeleton]; unfold k0_part1_skel
  simp only [semSignalWord, semWaitWord, Prog.lift, Prog.bind_op, Prog.bind_ret, Prog.pure_eq_ret, Prog.bind_assoc]
  iintro #HE HW HP HG1 Hk
  simp only [wp_deviceId]
  iapply (wp_wt m c) $$ HW; iintro HW
  iapply (wp_zld m c) $$ HP; iintro %v HP
  iapply (wp_zst m c) $$ HP; iintro HG
  iapply (wp_stage0 m c (chF c false 0) (off1_ c) rfl) $$ HG; iintro HG
  ihave HG1 := (SP_SF m c) $$ HG1
  iapply (wp_stage1 m c (chF c true 0) (off2_ c) rfl) $$ HG1; iintro HG1
  unfold WP; rw [wp_ret]; imodintro
  iapply Hk $$ HW HG HG1 %_ %_ %_ %_

/-- Part 2: the neighbours meet at the barrier; the rows of the first piece are loaded. -/
theorem part2 (v5 v7 : BitVec 32) {Q : (Σ' (v40 : FVec F S1027x1024 .f32) (v55 : FVec F S1024x1024 .f32) (v56 : FVec F S1024x1024 .f32), FVec F S1024x1024 .f32) → sProp (MT nD τ sig ℕ (Elt F) ℕ UU ℕ)} :
    Env m κ κs ⊢ iprop(Ow c 0 -∗ dutyTok ER (barCell (up false c)) 0 false.toNat -∗ dutyTok ER (barCell (up true c)) 0 true.toNat -∗ RF c false 0 -∗ RF c true 0 -∗ atPos ER (barCell c) 0 ∅ 0 -∗ cred (tallyAt (barCell c) 2 2) -∗ SG m c false (chF c false 0) -∗ KT m c
      -∗ (Ow c 2 -∗ atPos ER (barCell c) 1 ∅ 0 -∗ RF (dn false c) false 0 -∗ RF (dn true c) true 0 -∗ SF m c false -∗ KT m c -∗ Q ⟨k0_pay4 (seg m c (chF c false 0) false), k0_pay5 (seg m c (chF c false 0) false) (kr0 m c) (kr1 m c), k0_pay6 (seg m c (chF c false 0) false), k0_pay7 (kr2 m c)⟩)
      -∗ WP c (k0_part2 xM h0 kM h1 wM h2 oM h3 aM h4 bM h5 sM h6 cc0_scratch3 cc0_scratch4 cc0_scratch5 cc0_scratch6 c v5 v7 (SemArray.scalar (sig.barrier 0 rfl))) Q) := by
  rw [k0_part2_eq_skeleton]; unfold k0_part2_skel
  simp only [semSignalWord, semWaitWord, Prog.lift, Prog.bind_op, Prog.bind_ret, Prog.pure_eq_ret, Prog.bind_assoc]
  iintro #HE HO Ht0 Ht1 #HR0 #HR1 Hat Hcr HG HK Hk
  iapply (wp_barS m κ κs c false 0 (by decide) rfl (dev1 c) rfl rfl) $$ HE HO Ht0 HR0; iintro HO
  iapply (wp_barS m κ κs c true 1 (by decide) rfl (dev2 c) rfl rfl) $$ HE HO Ht1 HR1; iintro HO
  iapply (wp_barW m κ κs c 2 (by decide) (by decide) rfl rfl) $$ HE HO Hat Hcr; iintro ⟨HO, Hat, #HN0, #HN1⟩
  iapply (wp_stageW m κ κs c false (chF c false 0) 2 (by decide) rfl NS_false) $$ HE HO HG; iintro ⟨HO, HG⟩
  iapply (wp_seg m c false (chF c false 0) rfl) $$ HG; iintro HG
  iapply (wp_tap m c) $$ HK; iintro HK
  iapply (wp_tap m c) $$ HK; iintro HK
  iapply (wp_tap m c) $$ HK; iintro HK
  unfold WP; rw [wp_ret]; imodintro
  iapply Hk $$ HO Hat HN0 HN1 HG HK

/-- Part 3: the first piece of ring `false` is stored. -/
theorem part3 (v2 v7 : BitVec 32) (X : Vec F S1x1024x1024 .bf16) {Q : PUnit → sProp (MT nD τ sig ℕ (Elt F) ℕ UU ℕ)} :
    Env m κ κs ⊢ iprop(KT m c -∗ OP c false 0 X -∗ SF m c false
      -∗ (KT m c -∗ OP c false 0 (V m false 0 c) -∗ SG m c false (chF c false 1) -∗ Q ⟨⟩)
      -∗ WP c (k0_part3 xM h0 kM h1 wM h2 oM h3 aM h4 bM h5 sM h6 cc0_scratch3 cc0_scratch4 cc0_scratch5 cc0_scratch6 c v2 v7 (k0_pay2 (wst m c)) (k0_pay4 (seg m c (chF c false 0) false)) (k0_pay5 (seg m c (chF c false 0) false) (kr0 m c) (kr1 m c)) (k0_pay6 (seg m c (chF c false 0) false)) (k0_pay7 (kr2 m c))) Q) := by
  rw [k0_part3_eq_skeleton]; unfold k0_part3_skel
  simp only [semSignalWord, semWaitWord, Prog.lift, Prog.bind_op, Prog.bind_ret, Prog.pure_eq_ret, Prog.bind_assoc]
  iintro #HE HK HP HG Hk
  iapply (wp_tap m c) $$ HK; iintro HK
  iapply (wp_ldO c false 0 (off3_ c)) $$ HP; iintro HP
  iapply (wp_stO c false 0 (off3_ c)) $$ HP; iintro HP
  iapply (wp_stage0 m c (chF c false 1) (off4_ c) rfl) $$ HG; iintro HG
  ihave HP := (OP_eq c false 0 _ (V m false 0 c) (yv_8 m c (chF c false 0) false)) $$ HP
  unfold WP; rw [wp_ret]; imodintro
  iapply Hk $$ HK HP HG

/-- Part 4: hop 0 of ring `false` starts. -/
theorem part4 {Q : (Σ' (v130 : FVec F S1024x1024 .f32) (v131 : FVec F S1024x1024 .f32), FVec F S1x1024 .f32) → sProp (MT nD τ sig ℕ (Elt F) ℕ UU ℕ)} :
    Env m κ κs ⊢ iprop(Ow c 2 -∗ SV c false false 0 -∗ TK c false 0 -∗ OP c false 0 (V m false 0 c) -∗ RF (dn false c) false 0 -∗ SG m c true (chF c true 0) -∗ KT m c
      -∗ (Ow c 3 -∗ FA c false false 0 -∗ TK c false 1 -∗ SF m c true -∗ KT m c -∗ Q ⟨k0_pay10 (seg m c (chF c true 0) true) (kr0 m c) (kr1 m c) (kr2 m c), k0_pay11 (seg m c (chF c true 0) true), k0_pay12 (kr3 m c)⟩)
      -∗ WP c (k0_part4 xM h0 kM h1 wM h2 oM h3 aM h4 bM h5 sM h6 cc0_scratch3 cc0_scratch4 cc0_scratch5 cc0_scratch6 c) Q) := by
  rw [k0_part4_eq_skeleton]; unfold k0_part4_skel
  simp only [semSignalWord, semWaitWord, Prog.lift, Prog.bind_op, Prog.bind_ret, Prog.pure_eq_ret, Prog.bind_assoc]
  iintro #HE HO HV HTk HP #HN HG HK Hk
  iapply (wp_start m κ κs c false false 0 0 2 0 0 rfl rfl (by decide) (by decide) (by decide) rfl (dev3 c) (sq_o (off5_0 c)) rfl rfl rfl) $$ HE HO HV HTk HP HN; iintro ⟨HO, HA, HTk⟩
  iapply (wp_stageW m κ κs c true (chF c true 0) 3 (by decide) rfl NS_true) $$ HE HO HG; iintro ⟨HO, HG⟩
  iapply (wp_seg m c true (chF c true 0) rfl) $$ HG; iintro HG
  iapply (wp_tap m c) $$ HK; iintro HK
  iapply (wp_tap m c) $$ HK; iintro HK
  iapply (wp_tap m c) $$ HK; iintro HK
  iapply (wp_tap m c) $$ HK; iintro HK
  unfold WP; rw [wp_ret]; imodintro
  iapply Hk $$ HO HA HTk HG HK

/-- Part 5: hop 0 of ring `true` starts. -/
theorem part5 (v2 v5 : BitVec 32) (X : Vec F S1x1024x1024 .bf16) {Q : PUnit → sProp (MT nD τ sig ℕ (Elt F) ℕ UU ℕ)} :
    Env m κ κs ⊢ iprop(Ow c 3 -∗ OP c true 0 X -∗ SF m c true -∗ SV c true false 0 -∗ TK c true 0 -∗ RF (dn true c) true 0
      -∗ (Ow c 4 -∗ FA c true false 0 -∗ TK c true 1 -∗ SG m c true (chF c true 1) -∗ Q ⟨⟩)
      -∗ WP c (k0_part5 xM h0 kM h1 wM h2 oM h3 aM h4 bM h5 sM h6 cc0_scratch3 cc0_scratch4 cc0_scratch5 cc0_scratch6 c v2 v5 (k0_pay2 (wst m c)) (k0_pay10 (seg m c (chF c true 0) true) (kr0 m c) (kr1 m c) (kr2 m c)) (k0_pay11 (seg m c (chF c true 0) true)) (k0_pay12 (kr3 m c))) Q) := by
  rw [k0_part5_eq_skeleton]; unfold k0_part5_skel
  simp only [semSignalWord, semWaitWord, Prog.lift, Prog.bind_op, Prog.bind_ret, Prog.pure_eq_ret, Prog.bind_assoc]
  iintro #HE HO HP HG HV HTk #HN Hk
  iapply (wp_ldO c true 0 (off6_ c)) $$ HP; iintro HP
  iapply (wp_stO c true 0 (off6_ c)) $$ HP; iintro HP
  iapply (wp_stage1 m c (chF c true 1) (off7_1 c) rfl) $$ HG; iintro HG
  ihave HP := (OP_eq c true 0 _ (V m true 0 c) (yv_13 m c (chF c true 0) true)) $$ HP
  iapply (wp_start m κ κs c true false 0 0 3 0 0 rfl rfl (by decide) (by decide) (by decide) rfl (dev4 c) (sq_o (off8_0 c)) rfl rfl rfl) $$ HE HO HV HTk HP HN; iintro ⟨HO, HA, HTk⟩
  unfold WP; rw [wp_ret]; imodintro
  iapply Hk $$ HO HA HTk HG

/-- Part 6: the second piece of ring `false` is computed. -/
theorem part6 {Q : FVec F S1024x1024 .bf16 → sProp (MT nD τ sig ℕ (Elt F) ℕ UU ℕ)} :
    Env m κ κs ⊢ iprop(Ow c 4 -∗ SG m c false (chF c false 1) -∗ KT m c
      -∗ (Ow c 4 -∗ SF m c false -∗ KT m c -∗ Q (k0_pay14 (k0_pay2 (wst m c)) (seg m c (chF c false 1) false) (kr0 m c) (kr1 m c) (kr2 m c) (kr3 m c)))
      -∗ WP c (k0_part6 xM h0 kM h1 wM h2 oM h3 aM h4 bM h5 sM h6 cc0_scratch3 cc0_scratch4 cc0_scratch5 cc0_scratch6 c (k0_pay2 (wst m c))) Q) := by
  rw [k0_part6_eq_skeleton]; unfold k0_part6_skel
  simp only [semSignalWord, semWaitWord, Prog.lift, Prog.bind_op, Prog.bind_ret, Prog.pure_eq_ret, Prog.bind_assoc]
  iintro #HE HO HG HK Hk
  iapply (wp_stageW m κ κs c false (chF c false 1) 4 (by decide) rfl NS_false) $$ HE HO HG; iintro ⟨HO, HG⟩
  iapply (wp_seg m c false (chF c false 1) rfl) $$ HG; iintro HG
  iapply (wp_tap m c) $$ HK; iintro HK
  iapply (wp_tap m c) $$ HK; iintro HK
  iapply (wp_tap m c) $$ HK; iintro HK
  iapply (wp_tap m c) $$ HK; iintro HK
  unfold WP; rw [wp_ret]; imodintro
  iapply Hk $$ HO HG HK

/-- Part 7: it is stored; hop 0 of ring `false` has left. -/
theorem part7 (v2 v5 v7 : BitVec 32) (X : Vec F S1x1024x1024 .bf16) {Q : BitVec 32 → sProp (MT nD τ sig ℕ (Elt F) ℕ UU ℕ)} :
    Env m κ κs ⊢ iprop(Ow c 4 -∗ OP c false 1 X -∗ SF m c false -∗ FA c false false 0
      -∗ (Ow c 4 -∗ OP c false 1 (ys m c false 1) -∗ SG m c false (chF c false 2) -∗ FB c false false 0 -∗ OP c false 0 (V m false 0 c) -∗ ∀ b, Q b)
      -∗ WP c (k0_part7 xM h0 kM h1 wM h2 oM h3 aM h4 bM h5 sM h6 cc0_scratch3 cc0_scratch4 cc0_scratch5 cc0_scratch6 c v2 v5 v7 (k0_pay14 (k0_pay2 (wst m c)) (seg m c (chF c false 1) false) (kr0 m c) (kr1 m c) (kr2 m c) (kr3 m c))) Q) := by
  rw [k0_part7_eq_skeleton]; unfold k0_part7_skel
  simp only [semSignalWord, semWaitWord, Prog.lift, Prog.bind_op, Prog.bind_ret, Prog.pure_eq_ret, Prog.bind_assoc]
  iintro #HE HO HP HG HA Hk
  iapply (wp_ldO c false 1 (off9_ c)) $$ HP; iintro HP
  iapply (wp_stO c false 1 (off9_ c)) $$ HP; iintro HP
  ihave HP := (OP_eq c false 1 _ (ys m c false 1) (yv_15 m c (chF c false 1) false)) $$ HP
  iapply (wp_stage0 m c (chF c false 2) (off10_2 c) rfl) $$ HG; iintro HG
  iapply (wp_waitS m κ κs c false false 0 0 4 0 rfl rfl (by decide) (by decide) rfl (cr_o (off5_0 c))) $$ HE HO HA; iintro ⟨HO, HB, HP0⟩
  unfold WP; rw [wp_ret]; imodintro
  iapply Hk $$ HO HP HG HB HP0 %_

/-- Part 8: hop 0 of ring `false` has arrived and is added to the next piece; the slot is released. -/
theorem part8 (v2 v5 v7 v225 : BitVec 32) {Q : PUnit → sProp (MT nD τ sig ℕ (Elt F) ℕ UU ℕ)} :
    Env m κ κs ⊢ iprop(Ow c 4 -∗ FB c false false 0 -∗ OP c false 1 (ys m c false 1) -∗ CT c false 0 -∗ RF c false 0
      -∗ (Ow c 5 -∗ SV c false false 1 -∗ OP c false 1 (V m false 1 c) -∗ CT c false 1 -∗ RF c false 1 -∗ Q ⟨⟩)
      -∗ WP c (k0_part8 xM h0 kM h1 wM h2 oM h3 aM h4 bM h5 sM h6 cc0_scratch3 cc0_scratch4 cc0_scratch5 cc0_scratch6 c v2 v5 v7 v225) Q) := by
  rw [k0_part8_eq_skeleton]; unfold k0_part8_skel
  simp only [semSignalWord, semWaitWord, Prog.lift, Prog.bind_op, Prog.bind_ret, Prog.pure_eq_ret, Prog.bind_assoc]
  iintro #HE HO HB HP HT #HR Hk
  iapply (wp_waitR m κ κs c false false 0 0 4 rfl (by decide) (by decide) (by decide) rfl (cSq_credit false false)) $$ HE HO HB; iintro ⟨HO, HC, HS⟩
  iapply (wp_ldO c false 1 (off11_0 c)) $$ HP; iintro HP
  iapply (wp_ldC c false false rfl rfl) $$ HS; iintro HS
  iapply (wp_ldO c false 1 (off11_0 c)) $$ HP; iintro HP
  iapply (wp_stO c false 1 (off11_0 c)) $$ HP; iintro HP
  ihave HP := (OP_acc m c false 1 0 (by decide)) $$ HP
  iapply (wp_credit m κ κs c false false 0 0 4 rfl (by decide) (by decide) rfl (dev5 c) rfl rfl _) $$ HE HO HC HS HT HR; iintro ⟨HO, HV, HT, #HR2⟩
  unfold WP; rw [wp_ret]; imodintro
  iapply Hk $$ HO HV HP HT HR2

/-- Part 9: hop 1 of ring `false` starts. -/
theorem part9 {Q : (Σ' (v305 : FVec F S1024x1024 .f32), FVec F S1024x1024 .f32) → sProp (MT nD τ sig ℕ (Elt F) ℕ UU ℕ)} :
    Env m κ κs ⊢ iprop(Ow c 5 -∗ SV c false true 0 -∗ TK c false 1 -∗ OP c false 1 (V m false 1 c) -∗ RF (dn false c) false 0 -∗ SG m c true (chF c true 1) -∗ KT m c
      -∗ (Ow c 6 -∗ FA c false true 0 -∗ TK c false 2 -∗ SF m c true -∗ KT m c -∗ Q ⟨k0_pay17 (seg m c (chF c true 1) true) (kr0 m c) (kr1 m c) (kr2 m c) (kr3 m c), k0_pay18 (seg m c (chF c true 1) true) (kr0 m c) (kr1 m c) (kr2 m c) (kr3 m c)⟩)
      -∗ WP c (k0_part9 xM h0 kM h1 wM h2 oM h3 aM h4 bM h5 sM h6 cc0_scratch3 cc0_scratch4 cc0_scratch5 cc0_scratch6 c) Q) := by
  rw [k0_part9_eq_skeleton]; unfold k0_part9_skel
  simp only [semSignalWord, semWaitWord, Prog.lift, Prog.bind_op, Prog.bind_ret, Prog.pure_eq_ret, Prog.bind_assoc]
  iintro #HE HO HV HTk HP #HN HG HK Hk
  iapply (wp_start m κ κs c false true 0 1 5 0 1 rfl rfl (by decide) (by decide) (by decide) rfl (dev6 c) (sq_o (off5_m1 c)) rfl rfl rfl) $$ HE HO HV HTk HP HN; iintro ⟨HO, HA, HTk⟩
  iapply (wp_stageW m κ κs c true (chF c true 1) 6 (by decide) rfl NS_true) $$ HE HO HG; iintro ⟨HO, HG⟩
  iapply (wp_seg m c true (chF c true 1) rfl) $$ HG; iintro HG
  iapply (wp_tap m c) $$ HK; iintro HK
  iapply (wp_tap m c) $$ HK; iintro HK
  iapply (wp_tap m c) $$ HK; iintro HK
  iapply (wp_tap m c) $$ HK; iintro HK
  unfold WP; rw [wp_ret]; imodintro
  iapply Hk $$ HO HA HTk HG HK

/-- Part 10: the second piece of ring `true` is stored; hop 0 of that ring has left. -/
theorem part10 (v2 v5 v7 : BitVec 32) (X : Vec F S1x1024x1024 .bf16) {Q : (Σ' (v325 : BitVec 32) (v332 : BitVec 32), BitVec 32) → sProp (MT nD τ sig ℕ (Elt F) ℕ UU ℕ)} :
    Env m κ κs ⊢ iprop(Ow c 6 -∗ OP c true 1 X -∗ SF m c true -∗ FA c true false 0
      -∗ (Ow c 6 -∗ OP c true 1 (ys m c true 1) -∗ SG m c true (chF c true 2) -∗ FB c true false 0 -∗ OP c true 0 (V m true 0 c) -∗ ∀ v325 v332 w, Q ⟨v325, v332, w⟩)
      -∗ WP c (k0_part10 xM h0 kM h1 wM h2 oM h3 aM h4 bM h5 sM h6 cc0_scratch3 cc0_scratch4 cc0_scratch5 cc0_scratch6 c v2 v5 v7 (k0_pay2 (wst m c)) (k0_pay17 (seg m c (chF c true 1) true) (kr0 m c) (kr1 m c) (kr2 m c) (kr3 m c)) (k0_pay18 (seg m c (chF c true 1) true) (kr0 m c) (kr1 m c) (kr2 m c) (kr3 m c))) Q) := by
  rw [k0_part10_eq_skeleton]; unfold k0_part10_skel
  simp only [semSignalWord, semWaitWord, Prog.lift, Prog.bind_op, Prog.bind_ret, Prog.pure_eq_ret, Prog.bind_assoc]
  iintro #HE HO HP HG HA Hk
  iapply (wp_ldO c true 1 (off12_1 c)) $$ HP; iintro HP
  iapply (wp_stO c true 1 (off12_1 c)) $$ HP; iintro HP
  ihave HP := (OP_eq c true 1 _ (ys m c true 1) (yv_19 m c (chF c true 1) true)) $$ HP
  iapply (wp_stage1 m c (chF c true 2) (off7_2 c) rfl) $$ HG; iintro HG
  iapply (wp_waitS m κ κs c true false 0 0 6 0 rfl rfl (by decide) (by decide) rfl (cr_o (off8_0 c))) $$ HE HO HA; iintro ⟨HO, HB, HP0⟩
  unfold WP; rw [wp_ret]; imodintro
  iapply Hk $$ HO HP HG HB HP0 %_ %_ %_

/-- Part 11: hop 0 of ring `true` has arrived and is added to the next piece; the slot is released. -/
theorem part11 (v2 v5 v7 v325 v332 w : BitVec 32) {Q : PUnit → sProp (MT nD τ sig ℕ (Elt F) ℕ UU ℕ)} :
    Env m κ κs ⊢ iprop(Ow c 6 -∗ FB c true false 0 -∗ OP c true 1 (ys m c true 1) -∗ CT c true 0 -∗ RF c true 0
      -∗ (Ow c 7 -∗ SV c true false 1 -∗ OP c true 1 (V m true 1 c) -∗ CT c true 1 -∗ RF c true 1 -∗ Q ⟨⟩)
      -∗ WP c (k0_part11 xM h0 kM h1 wM h2 oM h3 aM h4 bM h5 sM h6 cc0_scratch3 cc0_scratch4 cc0_scratch5 cc0_scratch6 c v2 v5 v7 v325 v332 w) Q) := by
  rw [k0_part11_eq_skeleton]; unfold k0_part11_skel
  simp only [semSignalWord, semWaitWord, Prog.lift, Prog.bind_op, Prog.bind_ret, Prog.pure_eq_ret, Prog.bind_assoc]
  iintro #HE HO HB HP HT #HR Hk
  iapply (wp_waitR m κ κs c true false 0 0 6 rfl (by decide) (by decide) (by decide) rfl (cSq_credit true false)) $$ HE HO HB; iintro ⟨HO, HC, HS⟩
  iapply (wp_ldO c true 1 (off13_0 c)) $$ HP; iintro HP
  iapply (wp_ldC c true false rfl rfl) $$ HS; iintro HS
  iapply (wp_ldO c true 1 (off13_0 c)) $$ HP; iintro HP
  iapply (wp_stO c true 1 (off13_0 c)) $$ HP; iintro HP
  ihave HP := (OP_acc' m c true 1 0 (by decide) k0_pay20 rfl) $$ HP
  iapply (wp_credit m κ κs c true false 0 0 6 rfl (by decide) (by decide) rfl (dev7 c) rfl rfl _) $$ HE HO HC HS HT HR; iintro ⟨HO, HV, HT, #HR2⟩
  unfold WP; rw [wp_ret]; imodintro
  iapply Hk $$ HO HV HP HT HR2

/-- Part 12: hop 1 of ring `true` starts. -/
theorem part12 {Q : (Σ' (v397 : FVec F S1024x1024 .f32) (v398 : FVec F S1024x1024 .f32), FVec F S1024 .f32) → sProp (MT nD τ sig ℕ (Elt F) ℕ UU ℕ)} :
    Env m κ κs ⊢ iprop(Ow c 7 -∗ SV c true true 0 -∗ TK c true 1 -∗ OP c true 1 (V m true 1 c) -∗ RF (dn true c) true 0 -∗ SG m c false (chF c false 2) -∗ KT m c
      -∗ (Ow c 8 -∗ FA c true true 0 -∗ TK c true 2 -∗ SF m c false -∗ KT m c -∗ Q ⟨k0_pay22 (seg m c (chF c false 2) false) (kr0 m c) (kr1 m c) (kr2 m c), k0_pay23 (seg m c (chF c false 2) false), k0_pay24 (kr3 m c)⟩)
      -∗ WP c (k0_part12 xM h0 kM h1 wM h2 oM h3 aM h4 bM h5 sM h6 cc0_scratch3 cc0_scratch4 cc0_scratch5 cc0_scratch6 c) Q) := by
  rw [k0_part12_eq_skeleton]; unfold k0_part12_skel
  simp only [semSignalWord, semWaitWord, Prog.lift, Prog.bind_op, Prog.bind_ret, Prog.pure_eq_ret, Prog.bind_assoc]
  iintro #HE HO HV HTk HP #HN HG HK Hk
  iapply (wp_start m κ κs c true true 0 1 7 0 1 rfl rfl (by decide) (by decide) (by decide) rfl (dev8 c) (sq_o (off8_1 c)) rfl rfl rfl) $$ HE HO HV HTk HP HN; iintro ⟨HO, HA, HTk⟩
  iapply (wp_stageW m κ κs c false (chF c false 2) 8 (by decide) rfl NS_false) $$ HE HO HG; iintro ⟨HO, HG⟩
  iapply (wp_seg m c false (chF c false 2) rfl) $$ HG; iintro HG
  iapply (wp_tap m c) $$ HK; iintro HK
  iapply (wp_tap m c) $$ HK; iintro HK
  iapply (wp_tap m c) $$ HK; iintro HK
  iapply (wp_tap m c) $$ HK; iintro HK
  unfold WP; rw [wp_ret]; imodintro
  iapply Hk $$ HO HA HTk HG HK

/-- Part 13: the third piece of ring `false` is stored; hop 1 of that ring has left. -/
theorem part13 (v2 v9 : BitVec 32) (X : Vec F S1x1024x1024 .bf16) {Q : BitVec 32 → sProp (MT nD τ sig ℕ (Elt F) ℕ UU ℕ)} :
    Env m κ κs ⊢ iprop(Ow c 8 -∗ OP c false 2 X -∗ SF m c false -∗ FA c false true 0
      -∗ (Ow c 8 -∗ OP c false 2 (ys m c false 2) -∗ SG m c false (chF c false 3) -∗ FB c false true 0 -∗ OP c false 1 (V m false 1 c) -∗ ∀ b, Q b)
      -∗ WP c (k0_part13 xM h0 kM h1 wM h2 oM h3 aM h4 bM h5 sM h6 cc0_scratch3 cc0_scratch4 cc0_scratch5 cc0_scratch6 c v2 v9 (k0_pay2 (wst m c)) (k0_pay22 (seg m c (chF c false 2) false) (kr0 m c) (kr1 m c) (kr2 m c)) (k0_pay23 (seg m c (chF c false 2) false)) (k0_pay24 (kr3 m c))) Q) := by
  rw [k0_part13_eq_skeleton]; unfold k0_part13_skel
  simp only [semSignalWord, semWaitWord, Prog.lift, Prog.bind_op, Prog.bind_ret, Prog.pure_eq_ret, Prog.bind_assoc]
  iintro #HE HO HP HG HA Hk
  iapply (wp_ldO c false 2 (off14_2 c)) $$ HP; iintro HP
  iapply (wp_stO c false 2 (off14_2 c)) $$ HP; iintro HP
  ihave HP := (OP_eq c false 2 _ (ys m c false 2) (yv_25 m c (chF c false 2) false)) $$ HP
  iapply (wp_stage0 m c (chF c false 3) (off10_1 c) rfl) $$ HG; iintro HG
  iapply (wp_waitS m κ κs c false true 0 1 8 1 rfl rfl (by decide) (by decide) rfl (cr_o (off5_m1 c))) $$ HE HO HA; iintro ⟨HO, HB, HP0⟩
  unfold WP; rw [wp_ret]; imodintro
  iapply Hk $$ HO HP HG HB HP0 %_

/-- Part 14: hop 1 of ring `false` has arrived and is added to the next piece; the slot is released. -/
theorem part14 (v2 v5 v7 v425 : BitVec 32) {Q : PUnit → sProp (MT nD τ sig ℕ (Elt F) ℕ UU ℕ)} :
    Env m κ κs ⊢ iprop(Ow c 8 -∗ FB c false true 0 -∗ OP c false 2 (ys m c false 2) -∗ CT c false 1 -∗ RF c false 1 -∗ CW c false 0
      -∗ (Ow c 9 -∗ SV c false true 1 -∗ OP c false 2 (V m false 2 c) -∗ CT c false 2 -∗ RF c false 2 -∗ CW c false 1 -∗ RF (dn false c) false 1 -∗ Q ⟨⟩)
      -∗ WP c (k0_part14 xM h0 kM h1 wM h2 oM h3 aM h4 bM h5 sM h6 cc0_scratch3 cc0_scratch4 cc0_scratch5 cc0_scratch6 c v2 v5 v7 v425) Q) := by
  rw [k0_part14_eq_skeleton]; unfold k0_part14_skel
  simp only [semSignalWord, semWaitWord, Prog.lift, Prog.bind_op, Prog.bind_ret, Prog.pure_eq_ret, Prog.bind_assoc]
  iintro #HE HO HB HP HT #HR HW Hk
  iapply (wp_waitR m κ κs c false true 0 1 8 rfl (by decide) (by decide) (by decide) rfl (cSq_credit false true)) $$ HE HO HB; iintro ⟨HO, HC, HS⟩
  iapply (wp_ldO c false 2 (off11_m1 c)) $$ HP; iintro HP
  iapply (wp_ldC c false true rfl rfl) $$ HS; iintro HS
  iapply (wp_ldO c false 2 (off11_m1 c)) $$ HP; iintro HP
  iapply (wp_stO c false 2 (off11_m1 c)) $$ HP; iintro HP
  ihave HP := (OP_acc' m c false 2 1 (by decide) k0_pay26 rfl) $$ HP
  iapply (wp_credit m κ κs c false true 0 1 8 rfl (by decide) (by decide) rfl (dev9 c) rfl rfl _) $$ HE HO HC HS HT HR; iintro ⟨HO, HV, HT, #HR2⟩
  iapply (wp_cwait m κ κs c false 0 9 (by decide) (by decide) (by decide) rfl rfl) $$ HE HO HW; iintro ⟨HO, HW, #HN⟩
  unfold WP; rw [wp_ret]; imodintro
  iapply Hk $$ HO HV HP HT HR2 HW HN

/-- Part 15: hop 2 of ring `false` starts. -/
theorem part15 (v7 : BitVec 32) {Q : (Σ' (v476 : FVec F S1027x1024 .f32) (v491 : FVec F S1024x1024 .f32) (v492 : FVec F S1024x1024 .f32), FVec F S1024 .bf16) → sProp (MT nD τ sig ℕ (Elt F) ℕ UU ℕ)} :
    Env m κ κs ⊢ iprop(Ow c 9 -∗ SV c false false 1 -∗ TK c false 2 -∗ OP c false 2 (V m false 2 c) -∗ RF (dn false c) false 1 -∗ SG m c true (chF c true 2) -∗ KT m c
      -∗ (Ow c 10 -∗ FA c false false 1 -∗ TK c false 3 -∗ SF m c true -∗ KT m c -∗ Q ⟨k0_pay27 (seg m c (chF c true 2) true), k0_pay28 (seg m c (chF c true 2) true) (kr0 m c) (kr1 m c), k0_pay29 (seg m c (chF c true 2) true), k0_pay30 (kr2 m c)⟩)
      -∗ WP c (k0_part15 xM h0 kM h1 wM h2 oM h3 aM h4 bM h5 sM h6 cc0_scratch3 cc0_scratch4 cc0_scratch5 cc0_scratch6 c v7) Q) := by
  rw [k0_part15_eq_skeleton]; unfold k0_part15_skel
  simp only [semSignalWord, semWaitWord, Prog.lift, Prog.bind_op, Prog.bind_ret, Prog.pure_eq_ret, Prog.bind_assoc]
  iintro #HE HO HV HTk HP #HN HG HK Hk
  iapply (wp_start m κ κs c false false 1 2 9 1 2 rfl rfl (by decide) (by decide) (by decide) rfl (dev10 c) (sq_o (off5_m2 c)) rfl rfl rfl) $$ HE HO HV HTk HP HN; iintro ⟨HO, HA, HTk⟩
  iapply (wp_stageW m κ κs c true (chF c true 2) 10 (by decide) rfl NS_true) $$ HE HO HG; iintro ⟨HO, HG⟩
  iapply (wp_seg m c true (chF c true 2) rfl) $$ HG; iintro HG
  iapply (wp_tap m c) $$ HK; iintro HK
  iapply (wp_tap m c) $$ HK; iintro HK
  iapply (wp_tap m c) $$ HK; iintro HK
  unfold WP; rw [wp_ret]; imodintro
  iapply Hk $$ HO HA HTk HG HK

/-- Part 16: the third piece of ring `true` is stored. -/
theorem part16 (v2 v9 : BitVec 32) (X : Vec F S1x1024x1024 .bf16) {Q : BitVec 32 → sProp (MT nD τ sig ℕ (Elt F) ℕ UU ℕ)} :
    Env m κ κs ⊢ iprop(KT m c -∗ OP c true 2 X -∗ SF m c true
      -∗ (KT m c -∗ OP c true 2 (ys m c true 2) -∗ SG m c true (chF c true 3) -∗ ∀ b, Q b)
      -∗ WP c (k0_part16 xM h0 kM h1 wM h2 oM h3 aM h4 bM h5 sM h6 cc0_scratch3 cc0_scratch4 cc0_scratch5 cc0_scratch6 c v2 v9 (k0_pay2 (wst m c)) (k0_pay27 (seg m c (chF c true 2) true)) (k0_pay28 (seg m c (chF c true 2) true) (kr0 m c) (kr1 m c)) (k0_pay29 (seg m c (chF c true 2) true)) (k0_pay30 (kr2 m c))) Q) := by
  rw [k0_part16_eq_skeleton]; unfold k0_part16_skel
  simp only [semSignalWord, semWaitWord, Prog.lift, Prog.bind_op, Prog.bind_ret, Prog.pure_eq_ret, Prog.bind_assoc]
  iintro #HE HK HP HG Hk
  iapply (wp_tap m c) $$ HK; iintro HK
  iapply (wp_ldO c true 2 (off12_2 c)) $$ HP; iintro HP
  iapply (wp_stO c true 2 (off12_2 c)) $$ HP; iintro HP
  ihave HP := (OP_eq c true 2 _ (ys m c true 2) (yv_31 m c (chF c true 2) true)) $$ HP
  iapply (wp_stage1 m c (chF c true 3) (off15_ c) rfl) $$ HG; iintro HG
  unfold WP; rw [wp_ret]; imodintro
  iapply Hk $$ HK HP HG %_

/-- Part 17: hop 1 of ring `true` has arrived and is added to the next piece; the slot is released. -/
theorem part17 (v5 v7 v527 : BitVec 32) {Q : PUnit → sProp (MT nD τ sig ℕ (Elt F) ℕ UU ℕ)} :
    Env m κ κs ⊢ iprop(Ow c 10 -∗ FA c true true 0 -∗ OP c true 2 (ys m c true 2) -∗ CT c true 1 -∗ RF c true 1
      -∗ (Ow c 11 -∗ OP c true 1 (V m true 1 c) -∗ SV c true true 1 -∗ OP c true 2 (V m true 2 c) -∗ CT c true 2 -∗ RF c true 2 -∗ Q ⟨⟩)
      -∗ WP c (k0_part17 xM h0 kM h1 wM h2 oM h3 aM h4 bM h5 sM h6 cc0_scratch3 cc0_scratch4 cc0_scratch5 cc0_scratch6 c v5 v7 v527) Q) := by
  rw [k0_part17_eq_skeleton]; unfold k0_part17_skel
  simp only [semSignalWord, semWaitWord, Prog.lift, Prog.bind_op, Prog.bind_ret, Prog.pure_eq_ret, Prog.bind_assoc]
  iintro #HE HO HA HP HT #HR Hk
  iapply (wp_waitS m κ κs c true true 0 1 10 1 rfl rfl (by decide) (by decide) rfl (cr_o (off8_1 c))) $$ HE HO HA; iintro ⟨HO, HB, HP0⟩
  iapply (wp_waitR m κ κs c true true 0 1 10 rfl (by decide) (by decide) (by decide) rfl (cSq_credit true true)) $$ HE HO HB; iintro ⟨HO, HC, HS⟩
  iapply (wp_ldO c true 2 (off13_1 c)) $$ HP; iintro HP
  iapply (wp_ldC c true true rfl rfl) $$ HS; iintro HS
  iapply (wp_ldO c true 2 (off13_1 c)) $$ HP; iintro HP
  iapply (wp_stO c true 2 (off13_1 c)) $$ HP; iintro HP
  ihave HP := (OP_acc' m c true 2 1 (by decide) k0_pay32 rfl) $$ HP
  iapply (wp_credit m κ κs c true true 0 1 10 rfl (by decide) (by decide) rfl (dev11 c) rfl rfl _) $$ HE HO HC HS HT HR; iintro ⟨HO, HV, HT, #HR2⟩
  unfold WP; rw [wp_ret]; imodintro
  iapply Hk $$ HO HP0 HV HP HT HR2

/-- Part 18: the first credit of ring `true`, and its hop 2 starts. -/
theorem part18 (v2 v5 : BitVec 32) {Q : (Σ' (v578 : FVec F S1027x1024 .f32) (v585 : FVec F S1024x1024 .f32) (v586 : FVec F S1024x1024 .f32), Vec F S1x1024 .bf16) → sProp (MT nD τ sig ℕ (Elt F) ℕ UU ℕ)} :
    Env m κ κs ⊢ iprop(Ow c 11 -∗ CW c true 0 -∗ SV c true false 1 -∗ TK c true 2 -∗ OP c true 2 (V m true 2 c) -∗ SG m c false (chF c false 3) -∗ KT m c
      -∗ (Ow c 12 -∗ CW c true 1 -∗ RF (dn true c) true 1 -∗ FA c true false 1 -∗ TK c true 3 -∗ SF m c false -∗ KT m c -∗ Q ⟨k0_pay33 (seg m c (chF c false 3) false), k0_pay34 (seg m c (chF c false 3) false) (kr0 m c), k0_pay35 (seg m c (chF c false 3) false), (kr1 m c)⟩)
      -∗ WP c (k0_part18 xM h0 kM h1 wM h2 oM h3 aM h4 bM h5 sM h6 cc0_scratch3 cc0_scratch4 cc0_scratch5 cc0_scratch6 c v2 v5) Q) := by
  rw [k0_part18_eq_skeleton]; unfold k0_part18_skel
  simp only [semSignalWord, semWaitWord, Prog.lift, Prog.bind_op, Prog.bind_ret, Prog.pure_eq_ret, Prog.bind_assoc]
  iintro #HE HO HW HV HTk HP HG HK Hk
  iapply (wp_cwait m κ κs c true 0 11 (by decide) (by decide) (by decide) rfl rfl) $$ HE HO HW; iintro ⟨HO, HW, #HN⟩
  iapply (wp_start m κ κs c true false 1 2 11 1 2 rfl rfl (by decide) (by decide) (by decide) rfl (dev12 c) (sq_o (off8_2 c)) rfl rfl rfl) $$ HE HO HV HTk HP HN; iintro ⟨HO, HA, HTk⟩
  iapply (wp_stageW m κ κs c false (chF c false 3) 12 (by decide) rfl NS_false) $$ HE HO HG; iintro ⟨HO, HG⟩
  iapply (wp_seg m c false (chF c false 3) rfl) $$ HG; iintro HG
  iapply (wp_tap m c) $$ HK; iintro HK
  iapply (wp_tap m c) $$ HK; iintro HK
  unfold WP; rw [wp_ret]; imodintro
  iapply Hk $$ HO HW HN HA HTk HG HK

/-- Part 19: the last piece of ring `false` is stored. -/
theorem part19 (v2 v7 : BitVec 32) (X : Vec F S1x1024x1024 .bf16) {Q : BitVec 32 → sProp (MT nD τ sig ℕ (Elt F) ℕ UU ℕ)} :
    Env m κ κs ⊢ iprop(KT m c -∗ OP c false 3 X
      -∗ (KT m c -∗ OP c false 3 (ys m c false 3) -∗ ∀ b, Q b)
      -∗ WP c (k0_part19 xM h0 kM h1 wM h2 oM h3 aM h4 bM h5 sM h6 cc0_scratch3 cc0_scratch4 cc0_scratch5 cc0_scratch6 c v2 v7 (k0_pay2 (wst m c)) (k0_pay33 (seg m c (chF c false 3) false)) (k0_pay34 (seg m c (chF c false 3) false) (kr0 m c)) (k0_pay35 (seg m c (chF c false 3) false)) (kr1 m c)) Q) := by
  rw [k0_part19_eq_skeleton]; unfold k0_part19_skel
  simp only [semSignalWord, semWaitWord, Prog.lift, Prog.bind_op, Prog.bind_ret, Prog.pure_eq_ret, Prog.bind_assoc]
  iintro #HE HK HP Hk
  iapply (wp_tap m c) $$ HK; iintro HK
  iapply (wp_tap m c) $$ HK; iintro HK
  iapply (wp_ldO c false 3 (off14_1 c)) $$ HP; iintro HP
  iapply (wp_stO c false 3 (off14_1 c)) $$ HP; iintro HP
  ihave HP := (OP_eq c false 3 _ (ys m c false 3) (yv_36 m c (chF c false 3) false)) $$ HP
  unfold WP; rw [wp_ret]; imodintro
  iapply Hk $$ HK HP %_

/-- Part 20: hop 2 of ring `false` has arrived and is added to the next piece; the slot is released. -/
theorem part20 (v5 v7 v623 : BitVec 32) {Q : BitVec 32 → sProp (MT nD τ sig ℕ (Elt F) ℕ UU ℕ)} :
    Env m κ κs ⊢ iprop(Ow c 12 -∗ FA c false false 1 -∗ OP c false 3 (ys m c false 3) -∗ CT c false 2 -∗ RF c false 2 -∗ CW c false 1
      -∗ (Ow c 13 -∗ OP c false 2 (V m false 2 c) -∗ SV c false false 2 -∗ OP c false 3 (V m false 3 c) -∗ CT c false 3 -∗ RF c false 3 -∗ CW c false 2 -∗ RF (dn false c) false 2 -∗ ∀ b, Q b)
      -∗ WP c (k0_part20 xM h0 kM h1 wM h2 oM h3 aM h4 bM h5 sM h6 cc0_scratch3 cc0_scratch4 cc0_scratch5 cc0_scratch6 c v5 v7 v623) Q) := by
  rw [k0_part20_eq_skeleton]; unfold k0_part20_skel
  simp only [semSignalWord, semWaitWord, Prog.lift, Prog.bind_op, Prog.bind_ret, Prog.pure_eq_ret, Prog.bind_assoc]
  iintro #HE HO HA HP HT #HR HW Hk
  iapply (wp_waitS m κ κs c false false 1 2 12 2 rfl rfl (by decide) (by decide) rfl (cr_o (off5_m2 c))) $$ HE HO HA; iintro ⟨HO, HB, HP0⟩
  iapply (wp_waitR m κ κs c false false 1 2 12 rfl (by decide) (by decide) (by decide) rfl (cSq_credit false false)) $$ HE HO HB; iintro ⟨HO, HC, HS⟩
  iapply (wp_ldO c false 3 (off11_m2 c)) $$ HP; iintro HP
  iapply (wp_ldC c false false rfl rfl) $$ HS; iintro HS
  iapply (wp_ldO c false 3 (off11_m2 c)) $$ HP; iintro HP
  iapply (wp_stO c false 3 (off11_m2 c)) $$ HP; iintro HP
  ihave HP := (OP_acc' m c false 3 2 (by decide) k0_pay37 rfl) $$ HP
  iapply (wp_credit m κ κs c false false 1 2 12 rfl (by decide) (by decide) rfl (dev13 c) rfl rfl _) $$ HE HO HC HS HT HR; iintro ⟨HO, HV, HT, #HR2⟩
  iapply (wp_cwait m κ κs c false 1 13 (by decide) (by decide) (by decide) rfl rfl) $$ HE HO HW; iintro ⟨HO, HW, #HN⟩
  unfold WP; rw [wp_ret]; imodintro
  iapply Hk $$ HO HP0 HV HP HT HR2 HW HN %_

/-- Part 21: hop 3 of ring `false` starts. -/
theorem part21 (v2 v7 w : BitVec 32) {Q : (Σ' (v674 : FVec F S1027x1024 .f32) (v681 : FVec F S1024x1024 .f32) (v682 : FVec F S1024x1024 .f32), FVec F S1024 .f32) → sProp (MT nD τ sig ℕ (Elt F) ℕ UU ℕ)} :
    Env m κ κs ⊢ iprop(Ow c 13 -∗ SV c false true 1 -∗ TK c false 3 -∗ OP c false 3 (V m false 3 c) -∗ RF (dn false c) false 2 -∗ SG m c true (chF c true 3) -∗ KT m c
      -∗ (Ow c 14 -∗ FA c false true 1 -∗ TK c false 4 -∗ SF m c true -∗ KT m c -∗ Q ⟨k0_pay38 (seg m c (chF c true 3) true), k0_pay39 (seg m c (chF c true 3) true) (kr0 m c), k0_pay40 (seg m c (chF c true 3) true), k0_pay41 (kr1 m c)⟩)
      -∗ WP c (k0_part21 xM h0 kM h1 wM h2 oM h3 aM h4 bM h5 sM h6 cc0_scratch3 cc0_scratch4 cc0_scratch5 cc0_scratch6 c v2 v7 w) Q) := by
  rw [k0_part21_eq_skeleton]; unfold k0_part21_skel
  simp only [semSignalWord, semWaitWord, Prog.lift, Prog.bind_op, Prog.bind_ret, Prog.pure_eq_ret, Prog.bind_assoc]
  iintro #HE HO HV HTk HP #HN HG HK Hk
  iapply (wp_start m κ κs c false true 1 3 13 2 3 rfl rfl (by decide) (by decide) (by decide) rfl (dev14 c) (sq_o (off5_1 c)) rfl rfl rfl) $$ HE HO HV HTk HP HN; iintro ⟨HO, HA, HTk⟩
  iapply (wp_stageW m κ κs c true (chF c true 3) 14 (by decide) rfl NS_true) $$ HE HO HG; iintro ⟨HO, HG⟩
  iapply (wp_seg m c true (chF c true 3) rfl) $$ HG; iintro HG
  iapply (wp_tap m c) $$ HK; iintro HK
  iapply (wp_tap m c) $$ HK; iintro HK
  unfold WP; rw [wp_ret]; imodintro
  iapply Hk $$ HO HA HTk HG HK

/-- Part 22: the last piece of ring `true` is stored. -/
theorem part22 (v2 v5 : BitVec 32) (X : Vec F S1x1024x1024 .bf16) {Q : BitVec 32 → sProp (MT nD τ sig ℕ (Elt F) ℕ UU ℕ)} :
    Env m κ κs ⊢ iprop(KT m c -∗ OP c true 3 X
      -∗ (KT m c -∗ OP c true 3 (ys m c true 3) -∗ ∀ b, Q b)
      -∗ WP c (k0_part22 xM h0 kM h1 wM h2 oM h3 aM h4 bM h5 sM h6 cc0_scratch3 cc0_scratch4 cc0_scratch5 cc0_scratch6 c v2 v5 (k0_pay2 (wst m c)) (k0_pay38 (seg m c (chF c true 3) true)) (k0_pay39 (seg m c (chF c true 3) true) (kr0 m c)) (k0_pay40 (seg m c (chF c true 3) true)) (k0_pay41 (kr1 m c))) Q) := by
  rw [k0_part22_eq_skeleton]; unfold k0_part22_skel
  simp only [semSignalWord, semWaitWord, Prog.lift, Prog.bind_op, Prog.bind_ret, Prog.pure_eq_ret, Prog.bind_assoc]
  iintro #HE HK HP Hk
  iapply (wp_tap m c) $$ HK; iintro HK
  iapply (wp_tap m c) $$ HK; iintro HK
  iapply (wp_ldO c true 3 (off16_ c)) $$ HP; iintro HP
  iapply (wp_stO c true 3 (off16_ c)) $$ HP; iintro HP
  ihave HP := (OP_eq c true 3 _ (ys m c true 3) (yv_42 m c (chF c true 3) true)) $$ HP
  unfold WP; rw [wp_ret]; imodintro
  iapply Hk $$ HK HP %_

/-- Part 23: hop 2 of ring `true` has arrived and is added to the next piece; the slot is released. -/
theorem part23 (v2 v5 v7 v719 : BitVec 32) {Q : (Σ' (v750 : BitVec 32), BitVec 32) → sProp (MT nD τ sig ℕ (Elt F) ℕ UU ℕ)} :
    Env m κ κs ⊢ iprop(Ow c 14 -∗ FA c true false 1 -∗ OP c true 3 (ys m c true 3) -∗ CT c true 2 -∗ RF c true 2 -∗ CW c true 1
      -∗ (Ow c 15 -∗ OP c true 2 (V m true 2 c) -∗ SV c true false 2 -∗ OP c true 3 (V m true 3 c) -∗ CT c true 3 -∗ RF c true 3 -∗ CW c true 2 -∗ RF (dn true c) true 2 -∗ ∀ b w, Q ⟨b, w⟩)
      -∗ WP c (k0_part23 xM h0 kM h1 wM h2 oM h3 aM h4 bM h5 sM h6 cc0_scratch3 cc0_scratch4 cc0_scratch5 cc0_scratch6 c v2 v5 v7 v719) Q) := by
  rw [k0_part23_eq_skeleton]; unfold k0_part23_skel
  simp only [semSignalWord, semWaitWord, Prog.lift, Prog.bind_op, Prog.bind_ret, Prog.pure_eq_ret, Prog.bind_assoc]
  iintro #HE HO HA HP HT #HR HW Hk
  iapply (wp_waitS m κ κs c true false 1 2 14 2 rfl rfl (by decide) (by decide) rfl (cr_o (off8_2 c))) $$ HE HO HA; iintro ⟨HO, HB, HP0⟩
  iapply (wp_waitR m κ κs c true false 1 2 14 rfl (by decide) (by decide) (by decide) rfl (cSq_credit true false)) $$ HE HO HB; iintro ⟨HO, HC, HS⟩
  iapply (wp_ldO c true 3 (off13_2 c)) $$ HP; iintro HP
  iapply (wp_ldC c true false rfl rfl) $$ HS; iintro HS
  iapply (wp_ldO c true 3 (off13_2 c)) $$ HP; iintro HP
  iapply (wp_stO c true 3 (off13_2 c)) $$ HP; iintro HP
  ihave HP := (OP_acc' m c true 3 2 (by decide) k0_pay43 rfl) $$ HP
  iapply (wp_credit m κ κs c true false 1 2 14 rfl (by decide) (by decide) rfl (dev15 c) rfl rfl _) $$ HE HO HC HS HT HR; iintro ⟨HO, HV, HT, #HR2⟩
  iapply (wp_cwait m κ κs c true 1 15 (by decide) (by decide) (by decide) rfl rfl) $$ HE HO HW; iintro ⟨HO, HW, #HN⟩
  unfold WP; rw [wp_ret]; imodintro
  iapply Hk $$ HO HP0 HV HP HT HR2 HW HN %_ %_

/-- Part 24: hop 3 of ring `true` starts; hop 3 of ring `false` has left. -/
theorem part24 (v2 v5 v7 v750 w : BitVec 32) {Q : (Σ' (v767 : BitVec 32) (v774 : BitVec 32), BitVec 32) → sProp (MT nD τ sig ℕ (Elt F) ℕ UU ℕ)} :
    Env m κ κs ⊢ iprop(Ow c 15 -∗ SV c true true 1 -∗ TK c true 3 -∗ OP c true 3 (V m true 3 c) -∗ RF (dn true c) true 2 -∗ FA c false true 1
      -∗ (Ow c 16 -∗ FA c true true 1 -∗ TK c true 4 -∗ FB c false true 1 -∗ OP c false 3 (V m false 3 c) -∗ ∀ b b' w, Q ⟨b, b', w⟩)
      -∗ WP c (k0_part24 xM h0 kM h1 wM h2 oM h3 aM h4 bM h5 sM h6 cc0_scratch3 cc0_scratch4 cc0_scratch5 cc0_scratch6 c v2 v5 v7 v750 w) Q) := by
  rw [k0_part24_eq_skeleton]; unfold k0_part24_skel
  simp only [semSignalWord, semWaitWord, Prog.lift, Prog.bind_op, Prog.bind_ret, Prog.pure_eq_ret, Prog.bind_assoc]
  iintro #HE HO HV HTk HP #HN HA2 Hk
  iapply (wp_start m κ κs c true true 1 3 15 2 3 rfl rfl (by decide) (by decide) (by decide) rfl (dev16 c) (sq_o (off8_m1 c)) rfl rfl rfl) $$ HE HO HV HTk HP HN; iintro ⟨HO, HA, HTk⟩
  iapply (wp_waitS m κ κs c false true 1 3 16 3 rfl rfl (by decide) (by decide) rfl (cr_o (off5_1 c))) $$ HE HO HA2; iintro ⟨HO, HB, HP0⟩
  unfold WP; rw [wp_ret]; imodintro
  iapply Hk $$ HO HA HTk HB HP0 %_ %_ %_

/-- Part 25: hop 3 of ring `false` has arrived and is stored. -/
theorem part25 (v2 v5 v7 v767 v774 w : BitVec 32) (X : Vec F S1x1024x1024 .bf16) {Q : PUnit → sProp (MT nD τ sig ℕ (Elt F) ℕ UU ℕ)} :
    Env m κ κs ⊢ iprop(Ow c 16 -∗ FB c false true 1 -∗ OP c false 0 X -∗ CT c false 3 -∗ RF c false 3 -∗ CW c false 2
      -∗ (Ow c 17 -∗ SV c false true 2 -∗ OP c false 0 (V m false 4 c) -∗ CT c false 4 -∗ RF c false 4 -∗ CW c false 3 -∗ RF (dn false c) false 3 -∗ Q ⟨⟩)
      -∗ WP c (k0_part25 xM h0 kM h1 wM h2 oM h3 aM h4 bM h5 sM h6 cc0_scratch3 cc0_scratch4 cc0_scratch5 cc0_scratch6 c v2 v5 v7 v767 v774 w) Q) := by
  rw [k0_part25_eq_skeleton]; unfold k0_part25_skel
  simp only [semSignalWord, semWaitWord, Prog.lift, Prog.bind_op, Prog.bind_ret, Prog.pure_eq_ret, Prog.bind_assoc]
  iintro #HE HO HB HP HT #HR HW Hk
  iapply (wp_waitR m κ κs c false true 1 3 16 rfl (by decide) (by decide) (by decide) rfl (cSq_credit false true)) $$ HE HO HB; iintro ⟨HO, HC, HS⟩
  iapply (wp_ldC c false true rfl rfl) $$ HS; iintro HS
  iapply (wp_ldO c false 0 (off11_1 c)) $$ HP; iintro HP
  iapply (wp_stO c false 0 (off11_1 c)) $$ HP; iintro HP
  ihave HP := (OP_cp m c false 0 3 (by decide) _ (pay44_eq _)) $$ HP
  iapply (wp_credit m κ κs c false true 1 3 16 rfl (by decide) (by decide) rfl (dev17 c) rfl rfl _) $$ HE HO HC HS HT HR; iintro ⟨HO, HV, HT, #HR2⟩
  iapply (wp_cwait m κ κs c false 2 17 (by decide) (by decide) (by decide) rfl rfl) $$ HE HO HW; iintro ⟨HO, HW, #HN⟩
  unfold WP; rw [wp_ret]; imodintro
  iapply Hk $$ HO HV HP HT HR2 HW HN

/-- Part 26: hop 4 of ring `false` starts; hop 3 of ring `true` has arrived. -/
theorem part26 (v2 v5 : BitVec 32) {Q : FVec F S1024x1024 .bf16 → sProp (MT nD τ sig ℕ (Elt F) ℕ UU ℕ)} :
    Env m κ κs ⊢ iprop(Ow c 17 -∗ SV c false false 2 -∗ TK c false 4 -∗ OP c false 0 (V m false 4 c) -∗ RF (dn false c) false 3 -∗ FA c true true 1
      -∗ (Ow c 18 -∗ FA c false false 2 -∗ TK c false 5 -∗ FC c true true 1 -∗ OP c true 3 (V m true 3 c) -∗ CS c true true (V m true 3 (up true c)) -∗ Q (k0_pay45 (V m true 3 (up true c))))
      -∗ WP c (k0_part26 xM h0 kM h1 wM h2 oM h3 aM h4 bM h5 sM h6 cc0_scratch3 cc0_scratch4 cc0_scratch5 cc0_scratch6 c v2 v5) Q) := by
  rw [k0_part26_eq_skeleton]; unfold k0_part26_skel
  simp only [semSignalWord, semWaitWord, Prog.lift, Prog.bind_op, Prog.bind_ret, Prog.pure_eq_ret, Prog.bind_assoc]
  iintro #HE HO HV HTk HP #HN HA2 Hk
  iapply (wp_start m κ κs c false false 2 4 17 3 0 rfl rfl (by decide) (by decide) (by decide) rfl (dev18 c) (sq_o (off5_0 c)) rfl rfl rfl) $$ HE HO HV HTk HP HN; iintro ⟨HO, HA, HTk⟩
  iapply (wp_waitS m κ κs c true true 1 3 18 3 rfl rfl (by decide) (by decide) rfl (cr_o (off8_m1 c))) $$ HE HO HA2; iintro ⟨HO, HB, HP0⟩
  iapply (wp_waitR m κ κs c true true 1 3 18 rfl (by decide) (by decide) (by decide) rfl (cSq_credit true true)) $$ HE HO HB; iintro ⟨HO, HC, HS⟩
  iapply (wp_ldC c true true rfl rfl) $$ HS; iintro HS
  unfold WP; rw [wp_ret]; imodintro
  iapply Hk $$ HO HA HTk HC HP0 HS

/-- Part 27: it is stored, and hop 4 of ring `true` starts. -/
theorem part27 (v2 v5 v7 : BitVec 32) (X : Vec F S1x1024x1024 .bf16) {Q : BitVec 32 → sProp (MT nD τ sig ℕ (Elt F) ℕ UU ℕ)} :
    Env m κ κs ⊢ iprop(Ow c 18 -∗ OP c true 0 X -∗ FC c true true 1 -∗ CS c true true (V m true 3 (up true c)) -∗ CT c true 3 -∗ RF c true 3 -∗ CW c true 2 -∗ SV c true false 2 -∗ TK c true 4
      -∗ (Ow c 20 -∗ SV c true true 2 -∗ CT c true 4 -∗ RF c true 4 -∗ CW c true 3 -∗ FA c true false 2 -∗ TK c true 5 -∗ ∀ b, Q b)
      -∗ WP c (k0_part27 xM h0 kM h1 wM h2 oM h3 aM h4 bM h5 sM h6 cc0_scratch3 cc0_scratch4 cc0_scratch5 cc0_scratch6 c v2 v5 v7 (k0_pay45 (V m true 3 (up true c)))) Q) := by
  rw [k0_part27_eq_skeleton]; unfold k0_part27_skel
  simp only [semSignalWord, semWaitWord, Prog.lift, Prog.bind_op, Prog.bind_ret, Prog.pure_eq_ret, Prog.bind_assoc]
  iintro #HE HO HP HC HS HT #HR HW HV4 HTk Hk
  iapply (wp_ldO c true 0 (off13_m1 c)) $$ HP; iintro HP
  iapply (wp_stO c true 0 (off13_m1 c)) $$ HP; iintro HP
  ihave HP := (OP_cp m c true 0 3 (by decide) _ (pay46_eq _)) $$ HP
  iapply (wp_credit m κ κs c true true 1 3 18 rfl (by decide) (by decide) rfl (dev19 c) rfl rfl _) $$ HE HO HC HS HT HR; iintro ⟨HO, HV, HT, #HR2⟩
  iapply (wp_cwait m κ κs c true 2 19 (by decide) (by decide) (by decide) rfl rfl) $$ HE HO HW; iintro ⟨HO, HW, #HN⟩
  iapply (wp_start m κ κs c true false 2 4 19 3 0 rfl rfl (by decide) (by decide) (by decide) rfl (dev20 c) (sq_o (off8_0 c)) rfl rfl rfl) $$ HE HO HV4 HTk HP HN; iintro ⟨HO, HA, HTk⟩
  unfold WP; rw [wp_ret]; imodintro
  iapply Hk $$ HO HV HT HR2 HW HA HTk %_

/-- Part 28: hop 4 of ring `false` has arrived and is stored. -/
theorem part28 (v2 v7 v855 : BitVec 32) (X : Vec F S1x1024x1024 .bf16) {Q : PUnit → sProp (MT nD τ sig ℕ (Elt F) ℕ UU ℕ)} :
    Env m κ κs ⊢ iprop(Ow c 20 -∗ FA c false false 2 -∗ OP c false 1 X -∗ CW c false 3
      -∗ (Ow c 20 -∗ OP c false 0 (V m false 4 c) -∗ FC c false false 2 -∗ CS c false false (V m false 4 (up false c)) -∗ OP c false 1 (V m false 5 c) -∗ atPos ER (credCell c false) 1 ∅ 0 -∗ RF (dn false c) false 4 -∗ Q ⟨⟩)
      -∗ WP c (k0_part28 xM h0 kM h1 wM h2 oM h3 aM h4 bM h5 sM h6 cc0_scratch3 cc0_scratch4 cc0_scratch5 cc0_scratch6 c v2 v7 v855) Q) := by
  rw [k0_part28_eq_skeleton]; unfold k0_part28_skel
  simp only [semSignalWord, semWaitWord, Prog.lift, Prog.bind_op, Prog.bind_ret, Prog.pure_eq_ret, Prog.bind_assoc]
  iintro #HE HO HA HP HW Hk
  iapply (wp_waitS m κ κs c false false 2 4 20 0 rfl rfl (by decide) (by decide) rfl (cr_o (off5_0 c))) $$ HE HO HA; iintro ⟨HO, HB, HP0⟩
  iapply (wp_waitR m κ κs c false false 2 4 20 rfl (by decide) (by decide) (by decide) rfl (cSq_credit false false)) $$ HE HO HB; iintro ⟨HO, HC, HS⟩
  iapply (wp_ldC c false false rfl rfl) $$ HS; iintro HS
  iapply (wp_ldO c false 1 (off11_0 c)) $$ HP; iintro HP
  iapply (wp_stO c false 1 (off11_0 c)) $$ HP; iintro HP
  ihave HP := (OP_cp m c false 1 4 (by decide) _ (pay47_eq _)) $$ HP
  iapply (wp_cwait_last m κ κs c false 20 (by decide) (by decide) rfl rfl) $$ HE HO HW; iintro ⟨HO, HD, #HN⟩
  unfold WP; rw [wp_ret]; imodintro
  iapply Hk $$ HO HP0 HC HS HP HD HN

/-- Part 29: hop 5 of ring `false` starts; hop 4 of ring `true` has left. -/
theorem part29 (v2 v5 v7 : BitVec 32) {Q : BitVec 32 → sProp (MT nD τ sig ℕ (Elt F) ℕ UU ℕ)} :
    Env m κ κs ⊢ iprop(Ow c 20 -∗ SV c false true 2 -∗ TK c false 5 -∗ OP c false 1 (V m false 5 c) -∗ RF (dn false c) false 4 -∗ FA c true false 2
      -∗ (Ow c 21 -∗ FA c false true 2 -∗ TK c false 6 -∗ FB c true false 2 -∗ OP c true 0 (V m true 4 c) -∗ ∀ b, Q b)
      -∗ WP c (k0_part29 xM h0 kM h1 wM h2 oM h3 aM h4 bM h5 sM h6 cc0_scratch3 cc0_scratch4 cc0_scratch5 cc0_scratch6 c v2 v5 v7) Q) := by
  rw [k0_part29_eq_skeleton]; unfold k0_part29_skel
  simp only [semSignalWord, semWaitWord, Prog.lift, Prog.bind_op, Prog.bind_ret, Prog.pure_eq_ret, Prog.bind_assoc]
  iintro #HE HO HV HTk HP #HN HA2 Hk
  iapply (wp_start m κ κs c false true 2 5 20 4 1 rfl rfl (by decide) (by decide) (by decide) rfl (dev21 c) (sq_o (off5_m1 c)) rfl rfl rfl) $$ HE HO HV HTk HP HN; iintro ⟨HO, HA, HTk⟩
  iapply (wp_waitS m κ κs c true false 2 4 21 0 rfl rfl (by decide) (by decide) rfl (cr_o (off8_0 c))) $$ HE HO HA2; iintro ⟨HO, HB, HP0⟩
  unfold WP; rw [wp_ret]; imodintro
  iapply Hk $$ HO HA HTk HB HP0 %_

/-- Part 30: hop 4 of ring `true` has arrived and is stored; its hop 5 starts. -/
theorem part30 (v2 v5 v895 : BitVec 32) (X : Vec F S1x1024x1024 .bf16) {Q : (Σ' (v932 : BitVec 32), BitVec 32) → sProp (MT nD τ sig ℕ (Elt F) ℕ UU ℕ)} :
    Env m κ κs ⊢ iprop(Ow c 21 -∗ FB c true false 2 -∗ OP c true 1 X -∗ CW c true 3 -∗ SV c true true 2 -∗ TK c true 5
      -∗ (Ow c 22 -∗ FC c true false 2 -∗ CS c true false (V m true 4 (up true c)) -∗ atPos ER (credCell c true) 1 ∅ 0 -∗ FA c true true 2 -∗ TK c true 6 -∗ ∀ b w, Q ⟨b, w⟩)
      -∗ WP c (k0_part30 xM h0 kM h1 wM h2 oM h3 aM h4 bM h5 sM h6 cc0_scratch3 cc0_scratch4 cc0_scratch5 cc0_scratch6 c v2 v5 v895) Q) := by
  rw [k0_part30_eq_skeleton]; unfold k0_part30_skel
  simp only [semSignalWord, semWaitWord, Prog.lift, Prog.bind_op, Prog.bind_ret, Prog.pure_eq_ret, Prog.bind_assoc]
  iintro #HE HO HB HP HW HV HTk Hk
  iapply (wp_waitR m κ κs c true false 2 4 21 rfl (by decide) (by decide) (by decide) rfl (cSq_credit true false)) $$ HE HO HB; iintro ⟨HO, HC, HS⟩
  iapply (wp_ldC c true false rfl rfl) $$ HS; iintro HS
  iapply (wp_ldO c true 1 (off13_0 c)) $$ HP; iintro HP
  iapply (wp_stO c true 1 (off13_0 c)) $$ HP; iintro HP
  ihave HP := (OP_cp m c true 1 4 (by decide) _ (pay48_eq _)) $$ HP
  iapply (wp_cwait_last m κ κs c true 21 (by decide) (by decide) rfl rfl) $$ HE HO HW; iintro ⟨HO, HD, #HN⟩
  iapply (wp_start m κ κs c true true 2 5 21 4 1 rfl rfl (by decide) (by decide) (by decide) rfl (dev22 c) (sq_o (off8_1 c)) rfl rfl rfl) $$ HE HO HV HTk HP HN; iintro ⟨HO, HA, HTk⟩
  unfold WP; rw [wp_ret]; imodintro
  iapply Hk $$ HO HC HS HD HA HTk %_ %_

/-- Part 31: hop 5 of ring `false` has arrived and is stored. -/
theorem part31 (v2 v7 v932 w : BitVec 32) (X : Vec F S1x1024x1024 .bf16) {Q : BitVec 32 → sProp (MT nD τ sig ℕ (Elt F) ℕ UU ℕ)} :
    Env m κ κs ⊢ iprop(Ow c 22 -∗ FA c false true 2 -∗ OP c false 2 X
      -∗ (Ow c 22 -∗ OP c false 1 (V m false 5 c) -∗ FC c false true 2 -∗ CS c false true (V m false 5 (up false c)) -∗ OP c false 2 (V m false 6 c) -∗ ∀ b, Q b)
      -∗ WP c (k0_part31 xM h0 kM h1 wM h2 oM h3 aM h4 bM h5 sM h6 cc0_scratch3 cc0_scratch4 cc0_scratch5 cc0_scratch6 c v2 v7 v932 w) Q) := by
  rw [k0_part31_eq_skeleton]; unfold k0_part31_skel
  simp only [semSignalWord, semWaitWord, Prog.lift, Prog.bind_op, Prog.bind_ret, Prog.pure_eq_ret, Prog.bind_assoc]
  iintro #HE HO HA HP Hk
  iapply (wp_waitS m κ κs c false true 2 5 22 1 rfl rfl (by decide) (by decide) rfl (cr_o (off5_m1 c))) $$ HE HO HA; iintro ⟨HO, HB, HP0⟩
  iapply (wp_waitR m κ κs c false true 2 5 22 rfl (by decide) (by decide) (by decide) rfl (cSq_credit false true)) $$ HE HO HB; iintro ⟨HO, HC, HS⟩
  iapply (wp_ldC c false true rfl rfl) $$ HS; iintro HS
  iapply (wp_ldO c false 2 (off11_m1 c)) $$ HP; iintro HP
  iapply (wp_stO c false 2 (off11_m1 c)) $$ HP; iintro HP
  ihave HP := (OP_cp m c false 2 5 (by decide) _ (pay49_eq _)) $$ HP
  unfold WP; rw [wp_ret]; imodintro
  iapply Hk $$ HO HP0 HC HS HP %_

end Cert.RingProof

end
-- ==== Proof.Run.lean ====
/-
# The kernel's body as a whole

The parts in their order: what one device needs when its body starts, and what it leaves.
-/
module

public import proofs.«01_k».proof.Proof.Parts

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × CK → ℕ) (κs : Key → ℕ) (c : Dev nD)
  {h0 : xM.IsWhole} {h1 : kM.IsWhole} {h2 : wM.IsWhole} {h3 : oM.IsWhole} {h4 : aM.IsWhole} {h5 : bM.IsWhole} {h6 : sM.IsWhole}

/-- What device `c`'s body starts from, its landing slots already released for their first round: on each ring `ρ` the
    pieces of the output, the slots, and the tokens of its hops and credits. -/
def PreR (X : Bool → ℕ → Vec F S1x1024x1024 .bf16) (ρ : Bool) : sProp (MT nD τ sig ℕ (Elt F) ℕ UU ℕ) :=
  iprop(SP m c ρ ∗ dutyTok ER (barCell (up ρ c)) 0 ρ.toNat ∗ RF c ρ 0
    ∗ OP c ρ 0 (X ρ 0) ∗ OP c ρ 1 (X ρ 1) ∗ OP c ρ 2 (X ρ 2) ∗ OP c ρ 3 (X ρ 3)
    ∗ SV c ρ false 0 ∗ SV c ρ true 0 ∗ TK c ρ 0 ∗ CT c ρ 0 ∗ CW c ρ 0)
/-- What it ends with: on each ring the finished pieces, both slots, and every cell past its last round. -/
def PostR (ρ : Bool) : sProp (MT nD τ sig ℕ (Elt F) ℕ UU ℕ) :=
  iprop(SF m c ρ ∗ OP c ρ 0 (V m ρ 4 c) ∗ OP c ρ 1 (V m ρ 5 c) ∗ OP c ρ 2 (V m ρ 6 c) ∗ OP c ρ 3 (V m ρ 3 c)
    ∗ FC c ρ false 2 ∗ FC c ρ true 2 ∗ CS c ρ false (V m ρ 4 (up ρ c)) ∗ CS c ρ true (V m ρ 5 (up ρ c)) ∗ atPos ER (credCell c ρ) 1 ∅ 0)

set_option maxHeartbeats 4000000 in
/-- The parts up to the last wait for a send. -/
theorem run32 (X : Bool → ℕ → Vec F S1x1024x1024 .bf16) {Q : (Σ' (d0 : Dev nD) (v960 : BitVec 32) (v967 : BitVec 32), BitVec 32) → sProp (MT nD τ sig ℕ (Elt F) ℕ UU ℕ)} :
    Env m κ κs ⊢ iprop(Ow c 0 -∗ KT m c -∗ WT m c -∗ atPos ER (barCell c) 0 ∅ 0 -∗ cred (tallyAt (barCell c) 2 2) -∗ PreR m c X false -∗ PreR m c X true
      -∗ ((Ow c 22 ∗ KT m c ∗ WT m c ∗ atPos ER (barCell c) 1 ∅ 0 ∗ PostR m c false
          ∗ (∃ Y, SF m c true ∗ OP c true 0 (V m true 4 c) ∗ OP c true 1 (V m true 5 c) ∗ OP c true 2 Y ∗ OP c true 3 (V m true 3 c)
            ∗ FC c true false 2 ∗ FB c true true 2 ∗ CS c true false (V m true 4 (up true c)) ∗ atPos ER (credCell c true) 1 ∅ 0))
          -∗ ∀ a b w, Q ⟨c, a, b, w⟩)
      -∗ WP c (k0_part32 xM h0 kM h1 wM h2 oM h3 aM h4 bM h5 sM h6 cc0_scratch3 cc0_scratch4 cc0_scratch5 cc0_scratch6) Q) := by
  rw [k0_part32_eq_skeleton]; unfold k0_part32_skel
  unfold PreR PostR
  iintro #HE HO HK HW Hba Hbc ⟨Hsf, Hb0, #Rf0, Pf0, Pf1, Pf2, Pf3, Sff, Sft, Tf, Df, Wf⟩ ⟨Hst, Hb1, #Rt0, Pt0, Pt1, Pt2, Pt3, Stf, Stt, Tt, Dt, Wt⟩ Hk
  unfold WP
  rw [wp_bind]; iapply (part1 m κ κs c) $$ HE HW Hsf Hst; iintro HW Hsf Hst %v2 %v5 %v7 %v9; try dsimp only
  rw [wp_bind]; iapply (part2 m κ κs c _ _) $$ HE HO Hb0 Hb1 Rf0 Rt0 Hba Hbc Hsf HK; iintro HO Hba #Nf0 #Nt0 Hsf HK; try dsimp only
  rw [wp_bind]; iapply (part3 m κ κs c _ _ _) $$ HE HK Pf0 Hsf; iintro HK Pf0 Hsf; try dsimp only
  rw [wp_bind]; iapply (part4 m κ κs c) $$ HE HO Sff Tf Pf0 Nf0 Hst HK; iintro HO Sff Tf Hst HK; try dsimp only
  rw [wp_bind]; iapply (part5 m κ κs c _ _ _) $$ HE HO Pt0 Hst Stf Tt Nt0; iintro HO Stf Tt Hst; try dsimp only
  rw [wp_bind]; iapply (part6 m κ κs c) $$ HE HO Hsf HK; iintro HO Hsf HK; try dsimp only
  rw [wp_bind]; iapply (part7 m κ κs c _ _ _ _) $$ HE HO Pf1 Hsf Sff; iintro HO Pf1 Hsf Sff Pf0 %b7; try dsimp only
  rw [wp_bind]; iapply (part8 m κ κs c _ _ _ _) $$ HE HO Sff Pf1 Df Rf0; iintro HO Sff Pf1 Df #Rf1; try dsimp only
  rw [wp_bind]; iapply (part9 m κ κs c) $$ HE HO Sft Tf Pf1 Nf0 Hst HK; iintro HO Sft Tf Hst HK; try dsimp only
  rw [wp_bind]; iapply (part10 m κ κs c _ _ _ _) $$ HE HO Pt1 Hst Stf; iintro HO Pt1 Hst Stf Pt0 %b10 %b10' %b10''; try dsimp only
  rw [wp_bind]; iapply (part11 m κ κs c _ _ _ _ _ _) $$ HE HO Stf Pt1 Dt Rt0; iintro HO Stf Pt1 Dt #Rt1; try dsimp only
  rw [wp_bind]; iapply (part12 m κ κs c) $$ HE HO Stt Tt Pt1 Nt0 Hsf HK; iintro HO Stt Tt Hsf HK; try dsimp only
  rw [wp_bind]; iapply (part13 m κ κs c _ _ _) $$ HE HO Pf2 Hsf Sft; iintro HO Pf2 Hsf Sft Pf1 %b13; try dsimp only
  rw [wp_bind]; iapply (part14 m κ κs c _ _ _ _) $$ HE HO Sft Pf2 Df Rf1 Wf; iintro HO Sft Pf2 Df #Rf2 Wf #Nf1; try dsimp only
  rw [wp_bind]; iapply (part15 m κ κs c _) $$ HE HO Sff Tf Pf2 Nf1 Hst HK; iintro HO Sff Tf Hst HK; try dsimp only
  rw [wp_bind]; iapply (part16 m κ κs c _ _ _) $$ HE HK Pt2 Hst; iintro HK Pt2 Hst %b16; try dsimp only
  rw [wp_bind]; iapply (part17 m κ κs c _ _ _) $$ HE HO Stt Pt2 Dt Rt1; iintro HO Pt1 Stt Pt2 Dt #Rt2; try dsimp only
  rw [wp_bind]; iapply (part18 m κ κs c _ _) $$ HE HO Wt Stf Tt Pt2 Hsf HK; iintro HO Wt #Nt1 Stf Tt Hsf HK; try dsimp only
  rw [wp_bind]; iapply (part19 m κ κs c _ _ _) $$ HE HK Pf3; iintro HK Pf3 %b19; try dsimp only
  rw [wp_bind]; iapply (part20 m κ κs c _ _ _) $$ HE HO Sff Pf3 Df Rf2 Wf; iintro HO Pf2 Sff Pf3 Df #Rf3 Wf #Nf2 %b20; try dsimp only
  rw [wp_bind]; iapply (part21 m κ κs c _ _ _) $$ HE HO Sft Tf Pf3 Nf2 Hst HK; iintro HO Sft Tf Hst HK; try dsimp only
  rw [wp_bind]; iapply (part22 m κ κs c _ _ _) $$ HE HK Pt3; iintro HK Pt3 %b22; try dsimp only
  rw [wp_bind]; iapply (part23 m κ κs c _ _ _ _) $$ HE HO Stf Pt3 Dt Rt2 Wt; iintro HO Pt2 Stf Pt3 Dt #Rt3 Wt #Nt2 %b23 %b23'; try dsimp only
  rw [wp_bind]; iapply (part24 m κ κs c _ _ _ _ _) $$ HE HO Stt Tt Pt3 Nt2 Sft; iintro HO Stt Tt Sft Pf3 %b24 %b24' %b24''; try dsimp only
  rw [wp_bind]; iapply (part25 m κ κs c _ _ _ _ _ _ _) $$ HE HO Sft Pf0 Df Rf3 Wf; iintro HO Sft Pf0 Df #Rf4 Wf #Nf3; try dsimp only
  rw [wp_bind]; iapply (part26 m κ κs c _ _) $$ HE HO Sff Tf Pf0 Nf3 Stt; iintro HO Sff Tf Stt Pt3 Ctt; try dsimp only
  rw [wp_bind]; iapply (part27 m κ κs c _ _ _ _) $$ HE HO Pt0 Stt Ctt Dt Rt3 Wt Stf Tt; iintro HO Stt Dt #Rt4 Wt Stf Tt %b27; try dsimp only
  rw [wp_bind]; iapply (part28 m κ κs c _ _ _ _) $$ HE HO Sff Pf1 Wf; iintro HO Pf0 Sff Cff Pf1 Hcf #Nf4; try dsimp only
  rw [wp_bind]; iapply (part29 m κ κs c _ _ _) $$ HE HO Sft Tf Pf1 Nf4 Stf; iintro HO Sft Tf Stf Pt0 %b29; try dsimp only
  rw [wp_bind]; iapply (part30 m κ κs c _ _ _ _) $$ HE HO Stf Pt1 Wt Stt Tt; iintro HO Stf Ctf Hct Stt Tt %b30 %b30'; try dsimp only
  rw [wp_bind]; iapply (part31 m κ κs c _ _ _ _ _) $$ HE HO Sft Pf2; iintro HO Pf1 Sft Cft Pf2 %b31; try dsimp only
  simp only [Prog.lift, Prog.bind_op, Prog.bind_ret, Prog.pure_eq_ret]
  iapply (wp_waitS m κ κs c true true 2 5 22 1 rfl rfl (by decide) (by decide) rfl (cr_o (off8_1 c))) $$ HE HO Stt; iintro ⟨HO, Stt, Pt1⟩
  unfold WP; rw [wp_ret]; imodintro
  iapply Hk $$ [-] %_ %_ %_
  isplitl [HO]; · iexact HO
  isplitl [HK]; · iexact HK
  isplitl [HW]; · iexact HW
  isplitl [Hba]; · iexact Hba
  isplitl [Hsf Pf0 Pf1 Pf2 Pf3 Sff Sft Cff Cft Hcf]
  · iframe
  iexists _
  iframe

end Cert.RingProof

end
-- ==== Proof.Split.lean ====
/-
# The device's buffers as the parts use them

The output buffer as eight pieces, each landing buffer as two slots, the staging buffer and the input shared between the
two rings; and the contents the output ends with.
-/
module

public import proofs.«01_k».proof.Proof.Stage

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD) {s : Shape} {e : EltTy}

/-! ## The output buffer as eight pieces -/

/-- What piece `j` of ring `ρ` holds in the end. -/
def res (ρ : Bool) (j : ℕ) : Vec F S1x1024x1024 .bf16 := V m ρ (if j = 3 then 3 else j + 4) c
/-- Which piece of ring `ρ` chunk `k` is on device `c`. -/
def jof (ρ : Bool) (k : ℕ) : ℕ := if ρ then (k + 3 * c.val) % 4 else (c.val + 3 * k) % 4

theorem jof_ch (ρ : Bool) (j : Fin 4) : jof c ρ (ch c ρ j.val) = j.val := by revert c ρ j; decide
theorem ch_jof (ρ : Bool) (k : Fin 4) : ch c ρ (jof c ρ k.val) = k.val := by revert c ρ k; decide
theorem jof_lt (ρ : Bool) (k : ℕ) : jof c ρ k < 4 := by unfold jof; split <;> exact Nat.mod_lt _ (by decide)

/-- An index of a piece. -/
def pix (r : Fin 1024) (d : Fin 1024) : S1x1024x1024.Idx := fun a =>
  match a with
  | ⟨0, _⟩ => ⟨0, Nat.one_pos⟩
  | ⟨1, _⟩ => r
  | ⟨2, _⟩ => d

/-- The output buffer of device `c` in the end. -/
def outAt : (cc0_stg2_0 : Ref sig .tc).ty.Contents (Elt F) := fun i : S4x2048x1024.Idx =>
  res m c (decide (1024 ≤ (i 1).val)) (jof c (decide (1024 ≤ (i 1).val)) (i 0).val) (pix ⟨(i 1).val % 1024, Nat.mod_lt _ (by decide)⟩ (i 2))

theorem oRect_emb (ρ : Bool) (j : ℕ) (y : S1x1024x1024.Idx) (a : Fin 3) : ((oRect c ρ j).emb y a).val = oOff c ρ j a + (y a).val :=
  ValueKit.rect_emb_unit_val (s := S4x2048x1024) (oOff c ρ j) S1x1024x1024.size (oOff_inb c ρ j) y a

theorem outAt_piece (ρ : Bool) (j : Fin 4) : (fun y => (outAt m c) ((oRect c ρ j.val).emb y)) = res m c ρ j.val := by
  funext y
  have e0 : ((oRect c ρ j.val).emb y 0).val = ch c ρ j.val + (y 0).val := oRect_emb c ρ j.val y 0
  have e1 : ((oRect c ρ j.val).emb y 1).val = (if ρ then 1024 else 0) + (y 1).val := oRect_emb c ρ j.val y 1
  have e2 : ((oRect c ρ j.val).emb y 2).val = 0 + (y 2).val := oRect_emb c ρ j.val y 2
  have y0 : (y 0).val < 1 := (y 0).isLt
  have y1 : (y 1).val < 1024 := (y 1).isLt
  have hρ : decide (1024 ≤ ((oRect c ρ j.val).emb y 1).val) = ρ := by
    rw [e1]; cases ρ
    · refine decide_eq_false ?_; show ¬ 1024 ≤ 0 + (y 1).val; omega
    · refine decide_eq_true ?_; show 1024 ≤ 1024 + (y 1).val; omega
  have h0 : ((oRect c ρ j.val).emb y 0).val = ch c ρ j.val := by rw [e0]; omega
  show res m c (decide (1024 ≤ ((oRect c ρ j.val).emb y 1).val)) (jof c (decide (1024 ≤ ((oRect c ρ j.val).emb y 1).val)) ((oRect c ρ j.val).emb y 0).val)
    (pix ⟨((oRect c ρ j.val).emb y 1).val % 1024, _⟩ ((oRect c ρ j.val).emb y 2)) = _
  rw [hρ, h0, jof_ch]
  refine congrArg (res m c ρ j.val) ?_
  funext a
  refine Fin.ext ?_
  match a with
  | ⟨0, _⟩ => show 0 = (y 0).val; omega
  | ⟨1, _⟩ => show ((oRect c ρ j.val).emb y 1).val % 1024 = (y 1).val; rw [e1]; cases ρ
              · show (0 + (y 1).val) % 1024 = (y 1).val; omega
              · show (1024 + (y 1).val) % 1024 = (y 1).val; omega
  | ⟨2, _⟩ => show ((oRect c ρ j.val).emb y 2).val = (y 2).val; rw [e2]; omega

/-- The eight pieces. -/
abbrev oR (t : Bool × Fin 4) : Rect S4x2048x1024 := oRect c t.1 t.2.val

theorem mem_oRect (ρ : Bool) (j : ℕ) (i : S4x2048x1024.Idx) : i ∈ (oRect c ρ j).set ↔ (i 0).val = ch c ρ j ∧ decide (1024 ≤ (i 1).val) = ρ := by
  rw [Rect.mem_set_unit]
  have i1 : (i 1).val < 2048 := (i 1).isLt
  have i2 : (i 2).val < 1024 := (i 2).isLt
  constructor
  · intro h
    have h0 : ch c ρ j ≤ (i 0).val ∧ (i 0).val < ch c ρ j + 1 := h 0
    have h1 : (if ρ then 1024 else 0) ≤ (i 1).val ∧ (i 1).val < (if ρ then 1024 else 0) + 1024 := h 1
    refine ⟨by omega, ?_⟩
    cases ρ
    · have : (i 1).val < 0 + 1024 := h1.2
      exact decide_eq_false (by omega)
    · exact decide_eq_true h1.1
  · rintro ⟨h0, h1⟩ a
    match a with
    | ⟨0, _⟩ => show ch c ρ j ≤ (i 0).val ∧ (i 0).val < ch c ρ j + 1; omega
    | ⟨1, _⟩ => show (if ρ then 1024 else 0) ≤ (i 1).val ∧ (i 1).val < (if ρ then 1024 else 0) + 1024
                cases ρ
                · have := of_decide_eq_false h1
                  show 0 ≤ (i 1).val ∧ (i 1).val < 0 + 1024; omega
                · have := of_decide_eq_true h1
                  show 1024 ≤ (i 1).val ∧ (i 1).val < 1024 + 1024; omega
    | ⟨2, _⟩ => show 0 ≤ (i 2).val ∧ (i 2).val < 0 + 1024; omega

theorem oR_disj (t t' : Bool × Fin 4) (h : t ≠ t') : Disjoint (oR c t).set (oR c t').set := by
  rw [Finset.disjoint_left]
  intro i h1 h2
  obtain ⟨a1, b1⟩ := (mem_oRect c _ _ i).mp h1
  obtain ⟨a2, b2⟩ := (mem_oRect c _ _ i).mp h2
  obtain ⟨ρ, j⟩ := t; obtain ⟨ρ', j'⟩ := t'
  have e1 : ρ = ρ' := b1.symm.trans b2
  subst e1
  have e2 : j.val = j'.val := by rw [← jof_ch c ρ j, ← jof_ch c ρ j']; exact congrArg (jof c ρ) (a1.symm.trans a2)
  exact h (by rw [Fin.ext e2])

theorem oR_cov : (Finset.univ : Finset (Bool × Fin 4)).biUnion (fun t => (oR c t).set) = Finset.univ := by
  ext i
  refine ⟨fun _ => Finset.mem_univ _, fun _ => ?_⟩
  have i0 : (i 0).val < 4 := (i 0).isLt
  refine Finset.mem_biUnion.mpr ⟨(decide (1024 ≤ (i 1).val), ⟨jof c (decide (1024 ≤ (i 1).val)) (i 0).val, jof_lt c _ _⟩), Finset.mem_univ _, ?_⟩
  exact (mem_oRect c _ _ i).mpr ⟨(ch_jof c _ ⟨(i 0).val, i0⟩).symm, rfl⟩

theorem bigSep_pieces (Φ : Bool × Fin 4 → sProp (MT nD τ sig ℕ (Elt F) ℕ UU ℕ)) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ

theorem owns_in {b : Memref sig .tc .vmem s e} {f : b.view.ty.Contents (Elt F)} : (b.view.loc (c : Thread nD τ) ↦[b.view.set]{fullShare} f : sProp 𝕄)
    ⊢ owns (c : Thread nD τ) b fullShare (b.view.read (Elt F) f) := by
  unfold owns
  iintro H
  iexists f
  isplitr; · ipureintro; rfl
  iexact H
theorem owns_ex {b : Memref sig .tc .vmem s e} {X : s.Idx → Elt F e} : (owns (c : Thread nD τ) b fullShare X : sProp 𝕄)
    ⊢ iprop(∃ f : b.view.ty.Contents (Elt F), ⌜b.view.read (Elt F) f = X⌝ ∗ (b.view.loc (c : Thread nD τ) ↦[b.view.set]{fullShare} f)) := .rfl

/-- Some contents of the pieces. -/
theorem out_split (f : (cc0_stg2_0 : Ref sig .tc).ty.Contents (Elt F)) :
    (((c : Thread nD τ).loc cc0_stg2_0) ↦{fullShare} f : sProp 𝕄) ⊢ iprop(∃ X : Bool → ℕ → Vec F S1x1024x1024 .bf16,
      (OP c false 0 (X false 0) ∗ OP c false 1 (X false 1) ∗ OP c false 2 (X false 2) ∗ OP c false 3 (X false 3))
      ∗ (OP c true 0 (X true 0) ∗ OP c true 1 (X true 1) ∗ OP c true 2 (X true 2) ∗ OP c true 3 (X true 3))) := by
  have hq (t : Bool × Fin 4) : (owns (c : Thread nD τ) ((oM : Memref sig .tc .vmem S4x2048x1024 .bf16).slice (oR c t) (fun _ => rfl)) fullShare
      (fun y => (f : S4x2048x1024.Idx → Elt F .bf16) ((oR c t).emb y)) : sProp 𝕄) = OP c t.1 t.2.val (fun y => (f : S4x2048x1024.Idx → Elt F .bf16) ((oRect c t.1 t.2.val).emb y)) := rfl
  iintro H
  ihave H := (owns_rects (c : Thread nD τ) oM fullShare (oR c) (fun _ _ => rfl) (oR_disj c) (oR_cov c) (f : S4x2048x1024.Idx → Elt F .bf16)) $$ [H]
  · iapply (owns_in c (b := oM) (f := f))
    rw [show (oM : Memref sig .tc .vmem S4x2048x1024 .bf16).view.set = Finset.univ from View.set_whole _]
    iexact H
  ihave H := (Entails.of_eq ((bigSep_congr (fun t _ => hq t)).trans (bigSep_pieces _))) $$ H
  icases H with ⟨H0, H1, H2, H3, H4, H5, H6, H7⟩
  iexists (fun ρ j y => (f : S4x2048x1024.Idx → Elt F .bf16) ((oRect c ρ j).emb y))
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7

/-- The finished pieces make the finished output. -/
theorem out_join :
    iprop((OP c false 0 (V m false 4 c) ∗ OP c false 1 (V m false 5 c) ∗ OP c false 2 (V m false 6 c) ∗ OP c false 3 (V m false 3 c))
      ∗ (OP c true 0 (V m true 4 c) ∗ OP c true 1 (V m true 5 c) ∗ OP c true 2 (V m true 6 c) ∗ OP c true 3 (V m true 3 c)))
      ⊢ (((c : Thread nD τ).loc cc0_stg2_0) ↦{fullShare} outAt m c : sProp 𝕄) := by
  have hp (t : Bool × Fin 4) : (owns (c : Thread nD τ) ((oM : Memref sig .tc .vmem S4x2048x1024 .bf16).slice (oR c t) (fun _ => rfl)) fullShare
      (fun y => (outAt m c) ((oR c t).emb y)) : sProp 𝕄) = OP c t.1 t.2.val (res m c t.1 t.2.val) := by
    rw [outAt_piece m c t.1 t.2]; rfl
  iintro ⟨⟨H0, H1, H2, H3⟩, H4, H5, H6, H7⟩
  ihave H := (owns_of_rects (c : Thread nD τ) oM fullShare (oR c) (fun _ _ => rfl) (oR_disj c) (oR_cov c) (outAt m c : S4x2048x1024.Idx → Elt F .bf16)) $$ [H0 H1 H2 H3 H4 H5 H6 H7]
  · rw [bigSep_congr (fun t _ => hp t), bigSep_pieces]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave H := (owns_ex c) $$ H
  icases H with ⟨%g, %hg, H⟩
  have hg' : g = outAt m c := hg
  subst hg'
  rw [show (oM : Memref sig .tc .vmem S4x2048x1024 .bf16).view.set = Finset.univ from View.set_whole _]
  iexact H

/-! ## The landing buffers, the staging buffer and the input -/

/-- The scratch buffer behind ring `ρ`. -/
def cref : Bool → Ref sig .tc
  | false => cc0_scratch0
  | true => cc0_scratch1

theorem mem_cRect (s : Bool) (i : S2x1024x1024.Idx) : i ∈ (cRect s).set ↔ (i 0).val = s.toNat := by
  rw [Rect.mem_set_unit]
  have i1 : (i 1).val < 1024 := (i 1).isLt
  have i2 : (i 2).val < 1024 := (i 2).isLt
  have hs : cOff s 0 = s.toNat := by cases s <;> rfl
  constructor
  · intro h
    have h0 : cOff s 0 ≤ (i 0).val ∧ (i 0).val < cOff s 0 + 1 := h 0
    omega
  · intro h a
    match a with
    | ⟨0, _⟩ => show cOff s 0 ≤ (i 0).val ∧ (i 0).val < cOff s 0 + 1; omega
    | ⟨1, _⟩ => show 0 ≤ (i 1).val ∧ (i 1).val < 0 + 1024; omega
    | ⟨2, _⟩ => show 0 ≤ (i 2).val ∧ (i 2).val < 0 + 1024; omega

theorem cR_disj (t t' : Bool) (h : t ≠ t') : Disjoint (cRect t).set (cRect t').set := by
  rw [Finset.disjoint_left]
  intro i h1 h2
  have := ((mem_cRect t i).mp h1).symm.trans ((mem_cRect t' i).mp h2)
  cases t <;> cases t' <;> first | exact h rfl | exact absurd this (by decide)
theorem cR_cov : (Finset.univ : Finset Bool).biUnion (fun t => (cRect t).set) = Finset.univ := by
  ext i
  refine ⟨fun _ => Finset.mem_univ _, fun _ => ?_⟩
  have i0 : (i 0).val < 2 := (i 0).isLt
  refine Finset.mem_biUnion.mpr ⟨decide ((i 0).val = 1), Finset.mem_univ _, (mem_cRect _ i).mpr ?_⟩
  by_cases h : (i 0).val = 1
  · rw [h]; rfl
  · rw [decide_eq_false h]; show (i 0).val = 0; omega

theorem bigSep_bool (Φ : Bool → sProp (MT nD τ sig ℕ (Elt F) ℕ UU ℕ)) : bigSep Finset.univ Φ = iprop(Φ false ∗ Φ true) :=
  bigSep_univ_eq_bigSepL [false, true] (by decide) (by decide) Φ

/-- A landing buffer is its two slots, -/
theorem slots_split (ρ : Bool) : iprop(∃ f : Buf (Elt F) ((c : Thread nD τ).loc (cref ρ)), ((c : Thread nD τ).loc (cref ρ)) ↦{fullShare} f)
    ⊢ (iprop(Sl (c, ρ, false) ∗ Sl (c, ρ, true)) : sProp 𝕄) := by
  have h (b : Memref sig .tc .vmem S2x1024x1024 .bf16) (X : S2x1024x1024.Idx → Elt F .bf16) : (owns (c : Thread nD τ) b fullShare X : sProp 𝕄)
      ⊢ iprop((∃ v, owns (c : Thread nD τ) (b.slice (cRect false) (fun _ => rfl)) fullShare v) ∗ (∃ v, owns (c : Thread nD τ) (b.slice (cRect true) (fun _ => rfl)) fullShare v)) := by
    iintro H
    ihave H := (owns_rects (c : Thread nD τ) b fullShare cRect (fun _ _ => rfl) cR_disj cR_cov X) $$ H
    ihave H := (Entails.of_eq (bigSep_bool _)) $$ H
    icases H with ⟨H0, H1⟩
    isplitl [H0]
    · iexists _; iexact H0
    iexists _; iexact H1
  iintro ⟨%f, H⟩
  unfold Sl
  cases ρ
  · iapply (h (cM false) ((cM false).view.read (Elt F) f))
    iapply (owns_in c (b := cM false) (f := f))
    rw [show (cM false).view.set = Finset.univ from View.set_whole _]; iexact H
  · iapply (h (cM true) ((cM true).view.read (Elt F) f))
    iapply (owns_in c (b := cM true) (f := f))
    rw [show (cM true).view.set = Finset.univ from View.set_whole _]; iexact H

/-- and two owned slots are the buffer. -/
theorem slots_join (ρ : Bool) (A B : Vec F S1x1024x1024 .bf16) : iprop(CS c ρ false A ∗ CS c ρ true B)
    ⊢ (iprop(∃ f : Buf (Elt F) ((c : Thread nD τ).loc (cref ρ)), ((c : Thread nD τ).loc (cref ρ)) ↦{fullShare} f) : sProp 𝕄) := by
  have key (b : Ref sig .tc) (M : Memref sig .tc .vmem S2x1024x1024 .bf16) (f g : M.view.ty.Contents (Elt F)) :
      iprop((M.view.loc (c : Thread nD τ) ↦[(M.view.slice (cRect false)).set]{fullShare} f) ∗ (M.view.loc (c : Thread nD τ) ↦[(M.view.slice (cRect true)).set]{fullShare} g))
      ⊢ (iprop(∃ f : M.view.ty.Contents (Elt F), M.view.loc (c : Thread nD τ) ↦[M.view.set]{fullShare} f) : sProp 𝕄) := by
    have hd : Disjoint (M.view.slice (cRect false)).set (M.view.slice (cRect true)).set := by
      rw [View.set_slice, View.set_slice]; exact (Finset.disjoint_map _).mpr (cR_disj false true (by decide))
    have hset : (M.view.slice (cRect false)).set ∪ (M.view.slice (cRect true)).set = M.view.set := by
      rw [View.set_slice, View.set_slice]
      unfold View.set
      rw [← Finset.map_union]
      refine congrArg _ ?_
      rw [← cR_cov]
      ext i; simp; exact or_comm
    iintro H
    ihave H := (pointsTo_join hd) $$ H
    iexists _
    rw [← hset]
    iexact H
  rw [CS_def, CS_def]
  iintro ⟨⟨%f, -, H0⟩, ⟨%g, -, H1⟩⟩
  ihave H := (key (cref ρ) (cM ρ) f g) $$ [H0 H1]
  · isplitl [H0]; · iexact H0
    iexact H1
  icases H with ⟨%f, H⟩
  cases ρ
  · iexists f
    rw [show (cM false).view.set = Finset.univ from View.set_whole _]; iexact H
  · iexists f
    rw [show (cM true).view.set = Finset.univ from View.set_whole _]; iexact H

theorem HS_compl : (Finset.univ : Finset S2x1032x1024.Idx) \ HS false = HS true := by
  ext i
  rw [Finset.mem_sdiff, mem_HS, mem_HS]
  have i0 : (i 0).val < 2 := (i 0).isLt
  constructor
  · rintro ⟨-, h⟩
    have h' : ¬ (i 0).val = 0 := h
    show (i 0).val = 1; omega
  · intro h
    have h' : (i 0).val = 1 := h
    refine ⟨Finset.mem_univ _, ?_⟩
    show ¬ (i 0).val = 0; omega

/-- The staging buffer and the input, each to both rings. -/
theorem stage_split :
    iprop((∃ f : Buf (Elt F) ((c : Thread nD τ).loc cc0_scratch2), ((c : Thread nD τ).loc cc0_scratch2) ↦{fullShare} f)
      ∗ (((c : Thread nD τ).loc main_arg0) ↦{fullShare} m ((c : Thread nD τ).loc main_arg0))
      ∗ semVal ((c : Thread nD τ), .dma (stageS false)) 0 ∗ semVal ((c : Thread nD τ), .dma (stageS true)) 0)
    ⊢ (iprop(SP m c false ∗ SP m c true) : sProp 𝕄) := by
  unfold SP
  iintro ⟨⟨%f, Hs⟩, Hx, H0, H1⟩
  ihave Hx := (pointsTo_share (PosShare.mem_left_op_right fullShare)).1 $$ Hx
  icases Hx with ⟨Hxl, Hxr⟩
  ihave Hs := (pointsTo_split_subset (S := Finset.univ) (I := HS false) (Finset.subset_univ _)).1 $$ Hs
  icases Hs with ⟨Hs0, Hs1⟩
  isplitl [H0 Hxl Hs0]
  · iexists f
    isplitl [H0]; · iexact H0
    isplitl [Hxl]; · iexact Hxl
    iexact Hs0
  iexists f
  isplitl [H1]; · iexact H1
  isplitl [Hxr]; · iexact Hxr
  rw [← HS_compl]
  iexact Hs1

theorem stage_join : iprop(SF m c false ∗ SF m c true)
    ⊢ (iprop((∃ f : Buf (Elt F) ((c : Thread nD τ).loc cc0_scratch2), ((c : Thread nD τ).loc cc0_scratch2) ↦{fullShare} f)
      ∗ (((c : Thread nD τ).loc main_arg0) ↦{fullShare} m ((c : Thread nD τ).loc main_arg0))
      ∗ semVal ((c : Thread nD τ), .dma (stageS false)) 0 ∗ semVal ((c : Thread nD τ), .dma (stageS true)) 0) : sProp 𝕄) := by
  unfold SF
  iintro ⟨⟨%f, -, H0, Hxl, Hs0⟩, ⟨%g, -, H1, Hxr, Hs1⟩⟩
  isplitl [Hs0 Hs1]
  · iexists _
    iapply (pointsTo_join_subset (S := Finset.univ) (I := HS false) (Finset.subset_univ _))
    rw [HS_compl]
    isplitl [Hs0]; · iexact Hs0
    iexact Hs1
  isplitl [Hxl Hxr]
  · iapply (pointsTo_share (PosShare.mem_left_op_right fullShare)).2
    isplitl [Hxl]; · iexact Hxl
    iexact Hxr
  isplitl [H0]; · iexact H0
  iexact H1

end Cert.RingProof

end
-- ==== Proof.Body.lean ====
/-
# The whole body, from the device's buffers

The kernel's body with its tail, from the device's buffers to its buffers: the landing slots' first releases before it and
the closing of the cells after it.
-/
module

public import proofs.«01_k».proof.Proof.Run
public import proofs.«01_k».proof.Proof.Split

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (κ : Dev nD × CK → ℕ) (κs : Key → ℕ) (c : Dev nD)

/-- The last parts: the final received block is stored. -/
theorem body_run (X : Bool → ℕ → Vec F S1x1024x1024 .bf16) {Q : PUnit → sProp (MT nD τ sig ℕ (Elt F) ℕ UU ℕ)}
    {h0 : xM.IsWhole} {h1 : kM.IsWhole} {h2 : wM.IsWhole} {h3 : oM.IsWhole} {h4 : (cM false).IsWhole} {h5 : (cM true).IsWhole} {h6 : sM.IsWhole} :
    Env m κ κs ⊢ iprop(Ow c 0 -∗ KT m c -∗ WT m c -∗ atPos ER (barCell c) 0 ∅ 0 -∗ cred (tallyAt (barCell c) 2 2) -∗ PreR m c X false -∗ PreR m c X true
      -∗ ((Ow c 22 ∗ KT m c ∗ WT m c ∗ atPos ER (barCell c) 1 ∅ 0 ∗ PostR m c false ∗ PostR m c true) -∗ |={Set.univ}=> Q ⟨⟩)
      -∗ WP c (cc0_body xM h0 kM h1 wM h2 oM h3 (cM false) h4 (cM true) h5 sM h6 cc0_scratch3 cc0_scratch4 cc0_scratch5 cc0_scratch6) Q) := by
  rw [cc0_body_eq_skeleton]; unfold cc0_body_skel
  iintro #HE HO HK HW Hba Hbc Hf Ht Hk
  unfold WP
  rw [wp_bind]; iapply (run32 m κ κs c X) $$ HE HO HK HW Hba Hbc Hf Ht
  iintro ⟨HO, HK, HW, Hba, Hf, %Y, Hst, P0, P1, P2, P3, FCf, FBt, CSf, Hcr⟩ %_ %_ %_
  try dsimp only
  simp only [Prog.lift, Prog.bind_op, Prog.bind_ret, Prog.pure_eq_ret]
  iapply (wp_waitR m κ κs c true true 2 5 22 rfl (by decide) (by decide) (by decide) rfl (cSq_credit true true)) $$ HE HO FBt; iintro ⟨HO, FCt, CSt⟩
  iapply (wp_ldC c true true rfl rfl) $$ CSt; iintro CSt
  iapply (wp_ldO c true 2 (off13_1 c)) $$ P2; iintro P2
  iapply (wp_stO c true 2 (off13_1 c)) $$ P2; iintro P2
  ihave P2 := (OP_cp m c true 2 5 (by decide) _ (pay1_eq _)) $$ P2
  unfold WP; rw [wp_ret]
  iapply Hk
  isplitl [HO]; · iexact HO
  isplitl [HK]; · iexact HK
  isplitl [HW]; · iexact HW
  isplitl [Hba]; · iexact Hba
  isplitl [Hf]; · iexact Hf
  unfold PostR
  iframe

/-! ## What a device starts from and ends with -/

/-- Ring `ρ`'s positions and slot counts of device `c`, at the start. -/
def PosR (ρ : Bool) : sProp (MT nD τ sig ℕ (Elt F) ℕ UU ℕ) :=
  iprop((atPos ER (sendCell c ρ false) 0 ∅ 0 ∗ atPos ER (sendCell c ρ true) 0 ∅ 0 ∗ atPos ER (recvCell c ρ false) 0 ∅ 0 ∗ atPos ER (recvCell c ρ true) 0 ∅ 0
    ∗ atPos ER (credCell c ρ) 0 ∅ 0) ∗ readerAt ES (c, ρ, false) 0 ∗ readerAt ES (c, ρ, true) 0)
/-- The tokens of one hop. -/
def HopT (ρ : Bool) (h : ℕ) : sProp (MT nD τ sig ℕ (Elt F) ℕ UU ℕ) :=
  iprop(dutyTok ER (sendCell c ρ (sl h)) (h / 2) 0 ∗ dutyTok ER (recvCell (dn ρ c) ρ (sl h)) (h / 2) 0 ∗ writeTok ES (dn ρ c, ρ, sl h) (h / 2 + 1))
/-- The tokens device `c` pays with on ring `ρ`. -/
def TokR (ρ : Bool) : sProp (MT nD τ sig ℕ (Elt F) ℕ UU ℕ) :=
  iprop(dutyTok ER (barCell (up ρ c)) 0 ρ.toNat ∗ bigSep (Finset.Ico 0 6) (HopT c ρ) ∗ bigSep (Finset.Ico 0 4) fun h => dutyTok ER (credCell (up ρ c) ρ) 0 h)
/-- The credits of its waits on ring `ρ`. -/
def CrR (ρ : Bool) : sProp (MT nD τ sig ℕ (Elt F) ℕ UU ℕ) :=
  iprop((bigSep (Finset.Ico 0 6) fun h => cred (tallyAt (recvCell c ρ (sl h)) (posD ρ h + 1) N)) ∗ bigSep (Finset.Ico 0 4) fun i => cred (tallyAt (credCell c ρ) (posC ρ i + 1) 1))

theorem HopTok_of (ρ : Bool) (h : ℕ) : iprop(HopT c ρ h ∗ cred (tallyAt (recvCell c ρ (sl h)) (posD ρ h + 1) N)) ⊢ (HopTok c ρ h : sProp (MT nD τ sig ℕ (Elt F) ℕ UU ℕ)) := by
  unfold HopT HopTok
  iintro ⟨⟨H1, H2, H3⟩, H4⟩
  iframe

/-- The landing slots released for the first time. -/
theorem enter (ρ : Bool) : Env m κ κs ⊢ iprop(PosR c ρ -∗ TokR c ρ -∗ CrR c ρ -∗ Sl (c, ρ, false) -∗ Sl (c, ρ, true)
    -∗ |={Set.univ}=> (dutyTok ER (barCell (up ρ c)) 0 ρ.toNat ∗ RF c ρ 0 ∗ SV c ρ false 0 ∗ SV c ρ true 0 ∗ TK c ρ 0 ∗ CT c ρ 0 ∗ CW c ρ 0)) := by
  unfold PosR TokR CrR
  iintro #HE ⟨⟨As0, As1, Ar0, Ar1, Ac⟩, R0, R1⟩ ⟨Hb, Hh, Hc⟩ ⟨Hh', Hc'⟩ S0 S1
  imod (slot_release (E := ES) (ι := κs (c, ρ, false)) (k := (c, ρ, false)) (S := Sl (c, ρ, false)) (Es := Set.univ) (Set.mem_univ _) (Sl_false _) 0) $$ [R0 S0] with ⟨R0, #L0⟩
  · isplitr; · iapply (Env_slot m κ κs (c, ρ, false)); iexact HE
    isplitl [R0]; · iexact R0
    iexact S0
  imod (slot_release (E := ES) (ι := κs (c, ρ, true)) (k := (c, ρ, true)) (S := Sl (c, ρ, true)) (Es := Set.univ) (Set.mem_univ _) (Sl_false _) 0) $$ [R1 S1] with ⟨R1, #L1⟩
  · isplitr; · iapply (Env_slot m κ κs (c, ρ, true)); iexact HE
    isplitl [R1]; · iexact R1
    iexact S1
  imodintro
  isplitl [Hb]; · iexact Hb
  isplitr
  · unfold RF
    isplitr; · iexact L0
    isplitr; · iapply (Env_reached m κ κs (c, .recv ρ false)); iexact HE
    isplitr; · iexact L1
    iapply (Env_reached m κ κs (c, .recv ρ true)); iexact HE
  isplitl [As0 Ar0 R0]
  · unfold SV
    isplitl [As0]; · iexact As0
    isplitr; · iapply (Env_reached m κ κs (c, .send ρ false)); iexact HE
    isplitl [Ar0]; · iexact Ar0
    isplitr; · iapply (Env_reached m κ κs (c, .recv ρ false)); iexact HE
    iexact R0
  isplitl [As1 Ar1 R1]
  · unfold SV
    isplitl [As1]; · iexact As1
    isplitr; · iapply (Env_reached m κ κs (c, .send ρ true)); iexact HE
    isplitl [Ar1]; · iexact Ar1
    isplitr; · iapply (Env_reached m κ κs (c, .recv ρ true)); iexact HE
    iexact R1
  isplitl [Hh Hh']
  · unfold TK
    iapply (show iprop((bigSep (Finset.Ico 0 6) (HopT c ρ)) ∗ bigSep (Finset.Ico 0 6) fun h => cred (tallyAt (recvCell c ρ (sl h)) (posD ρ h + 1) N))
      ⊢ (bigSep (Finset.Ico 0 6) (HopTok c ρ) : sProp (MT nD τ sig ℕ (Elt F) ℕ UU ℕ)) from by
        rw [← bigSep_sep']
        exact bigSep_mono fun h _ => HopTok_of c ρ h)
    isplitl [Hh]; · iexact Hh
    iexact Hh'
  isplitl [Hc]; · unfold CT; iexact Hc
  unfold CW
  isplitl [Ac]
  · iexists ∅
    isplitr; · ipureintro; exact ⟨Finset.empty_subset _, Nat.zero_le _⟩
    isplitl [Ac]; · iexact Ac
    rw [bigSep_empty]; iempintro
  iexact Hc'

/-- The cells of one ring closed: their counters are back, at zero. -/
theorem leave (ρ : Bool) : Env m κ κs ⊢ iprop(FC c ρ false 2 -∗ FC c ρ true 2 -∗ atPos ER (credCell c ρ) 1 ∅ 0
    -∗ |={Set.univ}=> (semVal (sendCell c ρ false) 0 ∗ semVal (sendCell c ρ true) 0 ∗ semVal (recvCell c ρ false) 0 ∗ semVal (recvCell c ρ true) 0 ∗ semVal (credCell c ρ) 0)) := by
  have key (k : CK) : iprop(Env m κ κs ∗ atPos ER (kcell (c, k)) (lastR k) ∅ 0) ⊢ (|={Set.univ}=> semVal (kcell (c, k)) 0 : sProp (MT nD τ sig ℕ (Elt F) ℕ UU ℕ)) :=
    (sep_mono_left (Env_cell m κ κs (c, k))).trans (Rounds.cell_close ER (ringRd m) (Set.mem_univ (κ (c, k))) (fun h => h) (R := lastR k) (duties_later m c k))
  unfold FC
  iintro #HE ⟨A0, -, A1, -, -⟩ ⟨A2, -, A3, -, -⟩ A4
  imod (key (.send ρ false)) $$ [A0] with A0
  · isplitr; · iexact HE
    iexact A0
  imod (key (.recv ρ false)) $$ [A1] with A1
  · isplitr; · iexact HE
    iexact A1
  imod (key (.send ρ true)) $$ [A2] with A2
  · isplitr; · iexact HE
    iexact A2
  imod (key (.recv ρ true)) $$ [A3] with A3
  · isplitr; · iexact HE
    iexact A3
  imod (key (.cred ρ)) $$ [A4] with A4
  · isplitr; · iexact HE
    iexact A4
  imodintro
  iframe

theorem leave_bar : Env m κ κs ⊢ iprop(atPos ER (barCell c) 1 ∅ 0 -∗ |={Set.univ}=> semVal (barCell c) 0) := by
  iintro #HE A
  iapply (Rounds.cell_close ER (ringRd m) (Set.mem_univ (κ (c, .bar))) (fun h => h) (R := lastR .bar) (duties_later m c .bar))
  isplitr; · iapply (Env_cell m κ κs (c, .bar)); iexact HE
  iexact A

/-- The scratch buffers, at some contents. -/
def Scr : sProp (MT nD τ sig ℕ (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The input array, as it was. -/
def Inp : sProp (MT nD τ sig ℕ (Elt F) ℕ UU ℕ) := iprop(((c : Thread nD τ).loc main_arg0) ↦{fullShare} m ((c : Thread nD τ).loc main_arg0))

/-- What device `c` starts from, its scratch buffers apart. -/
def start : sProp (MT nD τ sig ℕ (Elt F) ℕ UU ℕ) :=
  iprop((∃ κ κs, Env m κ κs) ∗ atPos ER (barCell c) 0 ∅ 0 ∗ cred (tallyAt (barCell c) 2 2) ∗ (PosR c false ∗ TokR c false ∗ CrR c false) ∗ (PosR c true ∗ TokR c true ∗ CrR c true)
    ∗ semVal ((c : Thread nD τ), .dma (stageS false)) 0 ∗ semVal ((c : Thread nD τ), .dma (stageS true)) 0 ∗ Inp m c)
def Φ₀ : sProp (MT nD τ sig ℕ (Elt F) ℕ UU ℕ) := iprop(start m c ∗ Scr c)
/-- One ring's counters, all at zero. -/
def ZeroR (ρ : Bool) : sProp (MT nD τ sig ℕ (Elt F) ℕ UU ℕ) :=
  iprop(semVal (sendCell c ρ false) 0 ∗ semVal (sendCell c ρ true) 0 ∗ semVal (recvCell c ρ false) 0 ∗ semVal (recvCell c ρ true) 0 ∗ semVal (credCell c ρ) 0)
/-- What it ends with. -/
def Φ₁ : sProp (MT nD τ sig ℕ (Elt F) ℕ UU ℕ) :=
  iprop(Scr c ∗ Inp m c ∗ semVal (barCell c) 0 ∗ ZeroR c false ∗ ZeroR c true ∗ semVal ((c : Thread nD τ), .dma (stageS false)) 0 ∗ semVal ((c : Thread nD τ), .dma (stageS true)) 0)

/-- The whole body, from the buffers to the buffers. -/
theorem body_whole (f : (cc0_stg2_0 : Ref sig .tc).ty.Contents (Elt F)) {Q : PUnit → sProp (MT nD τ sig ℕ (Elt F) ℕ UU ℕ)}
    {h0 : xM.IsWhole} {h1 : kM.IsWhole} {h2 : wM.IsWhole} {h3 : oM.IsWhole} {h4 : (cM false).IsWhole} {h5 : (cM true).IsWhole} {h6 : sM.IsWhole} :
    iprop(Φ₀ m c ∗ Ow c 0 ∗ KT m c ∗ WT m c ∗ (((c : Thread nD τ).loc cc0_stg2_0) ↦{fullShare} f)
      ∗ ((Φ₁ m c ∗ Ow c 22 ∗ KT m c ∗ WT m c ∗ (((c : Thread nD τ).loc cc0_stg2_0) ↦{fullShare} outAt m c)) -∗ Q ⟨⟩))
      ⊢ WP c (cc0_body xM h0 kM h1 wM h2 oM h3 (cM false) h4 (cM true) h5 sM h6 cc0_scratch3 cc0_scratch4 cc0_scratch5 cc0_scratch6) Q := by
  unfold Φ₀ start Scr Inp
  have hs0 : iprop(∃ f : Buf (Elt F) ((c : Thread nD τ).loc cc0_scratch0), ((c : Thread nD τ).loc cc0_scratch0) ↦{fullShare} f)
    ⊢ (iprop(Sl (c, false, false) ∗ Sl (c, false, true)) : sProp (MT nD τ sig ℕ (Elt F) ℕ UU ℕ)) := slots_split c false
  have hs1 : iprop(∃ f : Buf (Elt F) ((c : Thread nD τ).loc cc0_scratch1), ((c : Thread nD τ).loc cc0_scratch1) ↦{fullShare} f)
    ⊢ (iprop(Sl (c, true, false) ∗ Sl (c, true, true)) : sProp (MT nD τ sig ℕ (Elt F) ℕ UU ℕ)) := slots_split c true
  iintro ⟨⟨⟨⟨%κ, %κs, #HE⟩, Hba, Hbc, ⟨Pf, Tf, Cf⟩, ⟨Pt, Tt, Ct⟩, Hz0, Hz1, Hx⟩, ⟨Hs0, Hs1, Hs2⟩⟩, HO, HK, HW, Hout, Hk⟩
  ihave Hs0 := hs0 $$ Hs0
  icases Hs0 with ⟨S00, S01⟩
  ihave Hs1 := hs1 $$ Hs1
  icases Hs1 with ⟨S10, S11⟩
  ihave Hst := (stage_split m c) $$ [Hs2 Hx Hz0 Hz1]
  · isplitl [Hs2]; · iexact Hs2
    isplitl [Hx]; · iexact Hx
    isplitl [Hz0]; · iexact Hz0
    iexact Hz1
  icases Hst with ⟨SP0, SP1⟩
  ihave Hout := (out_split (F := F) c f) $$ Hout
  icases Hout with ⟨%X, ⟨P0, P1, P2, P3⟩, P4, P5, P6, P7⟩
  imod (enter m κ κs c false) $$ HE Pf Tf Cf S00 S01 with ⟨Bf, Rf, Vf0, Vf1, Tf, Df, Wf⟩
  imod (enter m κ κs c true) $$ HE Pt Tt Ct S10 S11 with ⟨Bt, Rt, Vt0, Vt1, Tt, Dt, Wt⟩
  iapply (body_run m κ κs c X) $$ HE HO HK HW Hba Hbc [SP0 P0 P1 P2 P3 Bf Rf Vf0 Vf1 Tf Df Wf] [SP1 P4 P5 P6 P7 Bt Rt Vt0 Vt1 Tt Dt Wt]
  · unfold PreR; iframe
  · unfold PreR; iframe
  unfold PostR
  iintro ⟨HO, HK, HW, Hba, ⟨Hsf, P0, P1, P2, P3, Fff, Fft, Cff, Cft, Hcf⟩, ⟨Hst, P4, P5, P6, P7, Ftf, Ftt, Ctf, Ctt, Hct⟩⟩
  imod (leave m κ κs c false) $$ HE Fff Fft Hcf with Zf
  imod (leave m κ κs c true) $$ HE Ftf Ftt Hct with Zt
  imod (leave_bar m κ κs c) $$ HE Hba with Zb
  ihave Hsc := (stage_join m c) $$ [Hsf Hst]
  · isplitl [Hsf]; · iexact Hsf
    iexact Hst
  icases Hsc with ⟨Hs2, Hx, Hz0, Hz1⟩
  ihave Hs0 := (slots_join (F := F) c false _ _) $$ [Cff Cft]
  · isplitl [Cff]; · iexact Cff
    iexact Cft
  ihave Hs1 := (slots_join (F := F) c true _ _) $$ [Ctf Ctt]
  · isplitl [Ctf]; · iexact Ctf
    iexact Ctt
  ihave Hout := (out_join m c) $$ [P0 P1 P2 P3 P4 P5 P6 P7]
  · isplitl [P0 P1 P2 P3] <;> iframe
  imodintro
  iapply Hk
  isplitr [HO HK HW Hout]
  · unfold Φ₁ ZeroR Scr Inp
    isplitl [Hs0 Hs1 Hs2]
    · isplitl [Hs0]; · iexact Hs0
      isplitl [Hs1]; · iexact Hs1
      iexact Hs2
    iframe
  isplitl [HO]; · iexact HO
  isplitl [HK]; · iexact HK
  isplitl [HW]; · iexact HW
  iexact Hout

end Cert.RingProof

end
-- ==== Proof.Oblig.lean ====
/-
# The pipeline's obligation for the body

The data the pipeline's rule is instantiated at — what the windows hold, what the body needs and leaves — and the proof
that the body meets it.
-/
module

public import proofs.«01_k».proof.Proof.Body
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The pipeline's data -/

/-- What the windows hold before and after the body, and what the body starts from, leaves and owes. -/
def dats (_ : Fin 1) (c : Dev nD) : Dat τ (Elt F) ℕ ℕ UU ℕ cfg0 c where
  A w := m ((cfg0.win w).arr.view.loc (c : Thread nD τ))
  after w _ := match w with
    | ⟨0, _⟩ => kst m c
    | ⟨1, _⟩ => wst m c
    | ⟨2, _⟩ => outAt m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem bigSep_W (Φ : Fin cfg0.W → sProp (MT nD τ sig ℕ (Elt F) ℕ UU ℕ)) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The two inputs' staging buffers hold the whole arrays. -/
theorem before_0 (c : Dev nD) (d) : (dats m 0 c).before (0 : Fin 3) t0_0 d = kst m c := by
  unfold Dat.before
  rw [if_pos (fetch0_0 t0_0)]
  funext i
  refine congrArg (kst m c) ?_
  funext a
  refine Fin.ext ?_
  refine (ValueKit.rect_emb_unit_val _ _ _ _ a).trans ?_
  match a with
  | ⟨0, _⟩ => exact Nat.zero_add _
  | ⟨1, _⟩ => exact Nat.zero_add _
theorem before_1 (c : Dev nD) (d) : (dats m 0 c).before (1 : Fin 3) t0_0 d = wst m c := by
  unfold Dat.before
  rw [if_pos (fetch0_1 t0_0)]
  funext i
  refine congrArg (wst m c) ?_
  funext a
  refine Fin.ext ?_
  refine (ValueKit.rect_emb_unit_val _ _ _ _ a).trans ?_
  match a with
  | ⟨0, _⟩ => exact Nat.zero_add _
  | ⟨1, _⟩ => exact Nat.zero_add _

/-- A staging buffer held whole, with its contents. -/
abbrev stg (c : Dev nD) (b : Ref sig .tc) (X : b.ty.Contents (Elt F)) : sProp (MT nD τ sig ℕ (Elt F) ℕ UU ℕ) :=
  iprop(∃ f : Buf (Elt F) ((c : Thread nD τ).loc b), ⌜f = X⌝ ∗ (((c : Thread nD τ).loc b) ↦{fullShare} f))

set_option maxRecDepth 65536 in
/-- What the pipeline's rule gives the body. -/
def bodyPre (c : Dev nD) : sProp (MT nD τ sig ℕ (Elt F) ℕ UU ℕ) :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What it asks back. -/
def bodyPost (c : Dev nD) : sProp (MT nD τ sig ℕ (Elt F) ℕ UU ℕ) :=
  iprop(Φ₁ m c ∗ (dats m 0 c).owesAt 0 t0_0.succ ∗ stg c cc0_stg0_0 (kst m c) ∗ stg c cc0_stg1_0 (wst m c) ∗ stg c cc0_stg2_0 (outAt m c))

set_option maxRecDepth 65536 in
/-- The body obligation of the pipeline's rule. -/
theorem body_obligation (c : Dev nD) : BodyObligation (dats (F := F) m 0 c) (defs₀ (F := F)) 𝒱₀ 0 Set.univ := fun t => by
  rw [fin_N0 t]
  rw [bigSep_W, bigSep_W]
  simp only [owns_whole_eq]
  show bodyPre m c ⊢ wp frame (wpE (defs₀ (F := F)) 𝒱₀ c none) Set.univ
    (cc0_body (Memref.whole main_arg0) (Memref.isWhole_whole _) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  unfold bodyPre
  iintro ⟨HP, Ho, ⟨%d0, %f0, %hf0, H0⟩, ⟨%d1, %f1, %hf1, H1⟩, ⟨%d2, %f2, -, H2⟩⟩
  rw [before_0] at hf0
  rw [before_1] at hf1
  subst hf0 hf1
  iapply (body_whole m c f2 (Q := fun _ => bodyPost m c))
  isplitl [HP]; · iexact HP
  isplitl [Ho]
  · unfold Dat.owesAt Pipeline.owesWithin Ow
    icases Ho with ⟨%W, -, Ho⟩
    iexists W
    rw [show (dats m 0 c).owed t0_0.castSucc = owed c 0 from rfl]
    iexact Ho
  isplitl [H0]
  · unfold KT; iexact H0
  isplitl [H1]
  · unfold WT; iexact H1
  isplitl [H2]; · iexact H2
  iintro ⟨HP, HO, H0, H1, H2⟩
  unfold bodyPost Dat.owesAt Pipeline.owesWithin Ow KT WT
  rw [show (dats m 0 c).owed t0_0.succ = 0 from rfl, owed_end]
  isplitl [HP]; · iexact HP
  isplitl [HO]
  · icases HO with ⟨%W, HO⟩
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

end Cert.RingProof

end
-- ==== Proof.Deal.lean ====
/-
# What the launch deals

The tokens minted at the launch, dealt to the devices that pay with them; the semaphore cells and landing slots opened.
-/
module

public import proofs.«01_k».proof.Proof.Oblig

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Small families, listed -/

theorem bigSep_six (A : ℕ → sProp (MT nD τ sig ℕ (Elt F) ℕ UU ℕ)) : bigSep (Finset.Ico 0 6) A = iprop(A 0 ∗ A 1 ∗ A 2 ∗ A 3 ∗ A 4 ∗ A 5) :=
  bigSep_eq_bigSepL_of_eq [0, 1, 2, 3, 4, 5] (by decide) (by decide) A
theorem bigSep_four (A : ℕ → sProp (MT nD τ sig ℕ (Elt F) ℕ UU ℕ)) : bigSep (Finset.Ico 0 4) A = iprop(A 0 ∗ A 1 ∗ A 2 ∗ A 3) :=
  bigSep_eq_bigSepL_of_eq [0, 1, 2, 3] (by decide) (by decide) A
theorem bigSep_three (A : ℕ → sProp (MT nD τ sig ℕ (Elt F) ℕ UU ℕ)) : bigSep (Finset.range 3) A = iprop(A 0 ∗ A 1 ∗ A 2) :=
  bigSep_eq_bigSepL_of_eq [0, 1, 2] (by decide) (by decide) A
theorem bigSep_fin6 (A : ℕ → sProp (MT nD τ sig ℕ (Elt F) ℕ UU ℕ)) : (bigSep Finset.univ fun i : Fin 6 => A i.val) = bigSep (Finset.Ico 0 6) A := by
  rw [bigSep_six, bigSep_univ_eq_bigSepL [(0 : Fin 6), 1, 2, 3, 4, 5] (by decide) (by decide)]; rfl
theorem bigSep_fin4 (A : ℕ → sProp (MT nD τ sig ℕ (Elt F) ℕ UU ℕ)) : (bigSep Finset.univ fun i : Fin 4 => A i.val) = bigSep (Finset.Ico 0 4) A := by
  rw [bigSep_four, bigSep_univ_eq_bigSepL [(0 : Fin 4), 1, 2, 3] (by decide) (by decide)]; rfl
theorem bigSep_CK (A : CK → sProp (MT nD τ sig ℕ (Elt F) ℕ UU ℕ)) : bigSep Finset.univ A = iprop(A .bar ∗ A (.send false false) ∗ A (.send false true) ∗ A (.send true false) ∗ A (.send true true)
    ∗ A (.recv false false) ∗ A (.recv false true) ∗ A (.recv true false) ∗ A (.recv true true) ∗ A (.cred false) ∗ A (.cred true)) :=
  bigSep_univ_eq_bigSepL allCK (by decide) (by decide) A

/-- Over pairs, one family inside the other. -/
theorem bigSep_pairs {I J : Type} [DecidableEq I] [DecidableEq J] (s : Finset I) (t : Finset J) (A : I × J → sProp (MT nD τ sig ℕ (Elt F) ℕ UU ℕ)) :
    bigSep (s ×ˢ t) A = bigSep s fun i => bigSep t fun j => A (i, j) := by
  induction s using Finset.induction_on with
  | empty => rw [Finset.empty_product, bigSep_empty, bigSep_empty]
  | insert a s ha ih =>
    have hd : Disjoint (({a} : Finset I) ×ˢ t) (s ×ˢ t) := Finset.disjoint_product.mpr (.inl (Finset.disjoint_singleton_left.mpr ha))
    rw [bigSep_insert ha, Finset.insert_eq, Finset.union_product, bigSep_union hd, ih, Finset.singleton_product, bigSep_map]
    rfl
/-- What only device `0` has. -/
theorem bigSep_zero (P : sProp (MT nD τ sig ℕ (Elt F) ℕ UU ℕ)) : (bigSep Finset.univ fun c : Dev nD => if c = 0 then P else iprop(emp)) = P := by
  rw [bigSep_univ_at _ (0 : Dev nD), if_pos rfl, bigSep_congr (s := Finset.univ.erase 0) (Ψ := fun _ => iprop(emp)) fun c hc => if_neg (Finset.mem_erase.mp hc).1,
    show (bigSep (Finset.univ.erase (0 : Dev nD)) fun _ => iprop(emp)) = (iprop(emp) : sProp (MT nD τ sig ℕ (Elt F) ℕ UU ℕ)) from bigSep_emp_const _]
  exact equiv_iff.mp BI.sep_emp

/-! ## The tokens as they are minted -/

/-- The duties of one ring's cells on one device: its barrier signal, six sends, six receives, four credits. -/
abbrev TI : Type := Unit ⊕ (Fin 6 ⊕ (Fin 6 ⊕ Fin 4))
def tKind (ρ : Bool) : TI → CK
  | .inl _ => .bar
  | .inr (.inl h) => .send ρ (sl h.val)
  | .inr (.inr (.inl h)) => .recv ρ (sl h.val)
  | .inr (.inr (.inr _)) => .cred ρ
def tRnd : TI → ℕ
  | .inl _ => 0
  | .inr (.inl h) => h.val / 2
  | .inr (.inr (.inl h)) => h.val / 2
  | .inr (.inr (.inr _)) => 0
def tDut (ρ : Bool) : TI → ℕ
  | .inl _ => ρ.toNat
  | .inr (.inl _) => 0
  | .inr (.inr (.inl _)) => 0
  | .inr (.inr (.inr i)) => i.val
/-- One minted token: its cell, its round, its duty. -/
def tokOf (x : Dev nD × (Bool × TI)) : GSem nD τ sig × ℕ × ℕ := (kcell (x.1, tKind x.2.1 x.2.2), tRnd x.2.2, tDut x.2.1 x.2.2)

set_option maxRecDepth 100000 in
theorem tok_inj (ρ ρ' : Bool) : ∀ t t' : TI, (tKind ρ t, tRnd t, tDut ρ t) = (tKind ρ' t', tRnd t', tDut ρ' t') → ρ = ρ' ∧ t = t' := by
  cases ρ <;> cases ρ' <;> decide
theorem tokOf_inj : Function.Injective tokOf := by
  rintro ⟨c, y⟩ ⟨c', y'⟩ h
  have h1 := kcell_inj (congrArg Prod.fst h)
  have h2 : tRnd y.2 = tRnd y'.2 := congrArg (fun x => x.2.1) h
  have h3 : tDut y.1 y.2 = tDut y'.1 y'.2 := congrArg (fun x => x.2.2) h
  have hc : c = c' := congrArg Prod.fst h1
  have hk : tKind y.1 y.2 = tKind y'.1 y'.2 := congrArg Prod.snd h1
  obtain ⟨ρ, t⟩ := y
  obtain ⟨ρ', t'⟩ := y'
  obtain ⟨rfl, rfl⟩ := tok_inj ρ ρ' t t' (Prod.ext hk (Prod.ext h2 h3))
  rw [hc]

def ringCells : Finset (GSem nD τ sig) := Finset.univ.map ⟨kcell, kcell_inj⟩
def ringToks : Finset (GSem nD τ sig × ℕ × ℕ) := Finset.univ.map ⟨tokOf, tokOf_inj⟩

/-- The tokens of the duties of ring `ρ`'s cells on device `c`. -/
def toks (c : Dev nD) (ρ : Bool) : sProp (MT nD τ sig ℕ (Elt F) ℕ UU ℕ) :=
  iprop(dutyTok ER (barCell c) 0 ρ.toNat ∗ (bigSep (Finset.Ico 0 6) fun h => dutyTok ER (sendCell c ρ (sl h)) (h / 2) 0)
    ∗ (bigSep (Finset.Ico 0 6) fun h => dutyTok ER (recvCell c ρ (sl h)) (h / 2) 0) ∗ bigSep (Finset.Ico 0 4) fun i => dutyTok ER (credCell c ρ) 0 i)
/-- The tokens of the writes into ring `ρ`'s landing slots on device `c`. -/
def wtoks (c : Dev nD) (ρ : Bool) : sProp (MT nD τ sig ℕ (Elt F) ℕ UU ℕ) := bigSep (Finset.Ico 0 6) fun h => writeTok ES (c, ρ, sl h) (h / 2 + 1)

theorem ringToks_eq : bigSep ringToks (fun x => (dutyTok ER x.1 x.2.1 x.2.2 : sProp (MT nD τ sig ℕ (Elt F) ℕ UU ℕ))) = bigSep Finset.univ fun c : Dev nD => bigSep Finset.univ fun ρ : Bool => toks c ρ := by
  unfold ringToks
  rw [bigSep_map, bigSep_univ_prod]
  refine bigSep_congr fun c _ => ?_
  rw [bigSep_univ_prod]
  refine bigSep_congr fun ρ _ => ?_
  unfold toks
  rw [← bigSep_fin6, ← bigSep_fin6, ← bigSep_fin4, bigSep_univ_sum, bigSep_univ_sum, bigSep_univ_sum, bigSep_univ_of_subsingleton ()]
  rfl

theorem ringCells_eq (A : GSem nD τ sig → sProp (MT nD τ sig ℕ (Elt F) ℕ UU ℕ)) : bigSep ringCells A = bigSep Finset.univ fun c : Dev nD => bigSep Finset.univ fun k : CK => A (kcell (c, k)) := by
  unfold ringCells; rw [bigSep_map, bigSep_univ_prod]; rfl

theorem wtoks_one (c : Dev nD) (ρ : Bool) : iprop((writeTok ES (c, ρ, false) 1 ∗ writeTok ES (c, ρ, false) 2 ∗ writeTok ES (c, ρ, false) 3) ∗ writeTok ES (c, ρ, true) 1 ∗ writeTok ES (c, ρ, true) 2 ∗ writeTok ES (c, ρ, true) 3) ⊢ (wtoks c ρ : sProp (MT nD τ sig ℕ (Elt F) ℕ UU ℕ)) := by
  unfold wtoks
  rw [bigSep_six]
  iintro ⟨⟨A0, A1, A2⟩, B0, B1, B2⟩
  isplitl [A0]; · iexact A0
  isplitl [B0]; · iexact B0
  isplitl [A1]; · iexact A1
  isplitl [B1]; · iexact B1
  isplitl [A2]; · iexact A2
  iexact B2

/-- The write tokens the slots come with, by device, ring and hop. -/
theorem wtoks_of : bigSep ((Finset.univ : Finset Key) ×ˢ Finset.range 3) (fun x => (writeTok ES x.1 (x.2 + 1) : sProp (MT nD τ sig ℕ (Elt F) ℕ UU ℕ)))
    ⊢ bigSep Finset.univ fun c : Dev nD => bigSep Finset.univ fun ρ : Bool => wtoks c ρ := by
  rw [bigSep_pairs, bigSep_univ_prod]
  refine bigSep_mono fun c _ => ?_
  rw [bigSep_univ_prod]
  refine bigSep_mono fun ρ _ => ?_
  rw [bigSep_bool, bigSep_three, bigSep_three]
  exact wtoks_one c ρ

theorem TokR_eq (c : Dev nD) (ρ : Bool) : (TokR c ρ : sProp (MT nD τ sig ℕ (Elt F) ℕ UU ℕ)) = iprop(dutyTok ER (barCell (up ρ c)) 0 ρ.toNat
    ∗ ((bigSep (Finset.Ico 0 6) fun h => dutyTok ER (sendCell c ρ (sl h)) (h / 2) 0)
      ∗ (bigSep (Finset.Ico 0 6) fun h => dutyTok ER (recvCell (dn ρ c) ρ (sl h)) (h / 2) 0) ∗ wtoks (dn ρ c) ρ)
    ∗ bigSep (Finset.Ico 0 4) fun i => dutyTok ER (credCell (up ρ c) ρ) 0 i) := by
  unfold TokR wtoks
  rw [← bigSep_sep', ← bigSep_sep']
  rfl

/-- Every token to the device that pays with it. -/
theorem toks_around (ρ : Bool) : iprop((bigSep Finset.univ fun c : Dev nD => toks c ρ) ∗ bigSep Finset.univ fun c : Dev nD => wtoks c ρ)
    ⊢ (bigSep Finset.univ fun c : Dev nD => TokR c ρ : sProp (MT nD τ sig ℕ (Elt F) ℕ UU ℕ)) := by
  rw [bigSep_congr (s := Finset.univ) fun (c : Dev nD) _ => TokR_eq (F := F) c ρ]
  unfold toks
  rw [bigSep_sep', bigSep_sep', bigSep_sep', bigSep_sep', bigSep_sep', bigSep_sep', bigSep_sep',
    bigSep_univ_equiv (ring ρ).symm (fun c : Dev nD => (dutyTok ER (barCell c) 0 ρ.toNat : sProp (MT nD τ sig ℕ (Elt F) ℕ UU ℕ))),
    bigSep_univ_equiv (ring ρ) (fun c : Dev nD => (bigSep (Finset.Ico 0 6) fun h => dutyTok ER (recvCell c ρ (sl h)) (h / 2) 0 : sProp (MT nD τ sig ℕ (Elt F) ℕ UU ℕ))),
    bigSep_univ_equiv (ring ρ) (fun c : Dev nD => (wtoks c ρ : sProp (MT nD τ sig ℕ (Elt F) ℕ UU ℕ))),
    bigSep_univ_equiv (ring ρ).symm (fun c : Dev nD => (bigSep (Finset.Ico 0 4) fun i => dutyTok ER (credCell c ρ) 0 i : sProp (MT nD τ sig ℕ (Elt F) ℕ UU ℕ)))]
  iintro ⟨⟨H1, H2, H3, H4⟩, H5⟩
  isplitl [H1]; · iexact H1
  isplitl [H2 H3 H5]
  · isplitl [H2]; · iexact H2
    isplitl [H3]; · iexact H3
    iexact H5
  iexact H4

/-! ## What the launch deals -/

/-- The launch's element: the pipeline's cells, the rings' cells and tokens, the landing slots. -/
def u₀ : UU :=
  (initOf (Pipeline.cells cfgs cellOf_inj) (Pipeline.launchToks cfgs cellOf_inj), (initOf ringCells ringToks, (initSlots (Finset.univ : Finset Key) 3, 1)))

def slot0 (c : Dev nD) : sProp (MT nD τ sig ℕ (Elt F) ℕ UU ℕ) := if c = 0 then BI.own (ES (initSlots (Finset.univ : Finset Key) 3)) else iprop(emp)
/-- What device `c` is dealt (the slots' element, one for all, with device `0`). -/
def G (c : Dev nD) : sProp (MT nD τ sig ℕ (Elt F) ℕ UU ℕ) :=
  iprop((bigSep Finset.univ fun k : CK => roundState ER (ringRd m) (kcell (c, k)) 0) ∗ (bigSep Finset.univ fun k : CK => atPos ER (kcell (c, k)) 0 ∅ 0)
    ∗ (bigSep Finset.univ fun k : CK => reached ER (kcell (c, k)) 0) ∗ (bigSep Finset.univ fun ρ : Bool => toks c ρ) ∗ slot0 c)

theorem fund_ring : iprop(BI.own (ER (initOf ringCells ringToks)) ∗ BI.own (ES (initSlots (Finset.univ : Finset Key) 3))) ⊢ (|==> bigSep Finset.univ (G m) : sProp (MT nD τ sig ℕ (Elt F) ℕ UU ℕ)) := by
  iintro ⟨HX, HS⟩
  imod (Rounds.fund ER (ringRd m) ringCells ringToks) $$ HX with ⟨Hst, Hr, Hat, Htok⟩
  imodintro
  ihave Hst' := (Entails.of_eq (ringCells_eq fun g => roundState ER (ringRd m) g 0)) $$ Hst
  ihave Hat' := (Entails.of_eq (ringCells_eq (F := F) fun g => atPos ER g 0 ∅ 0)) $$ Hat
  ihave Hr' := (Entails.of_eq (ringCells_eq (F := F) fun g => reached ER g 0)) $$ Hr
  ihave Htok' := (Entails.of_eq (ringToks_eq (F := F))) $$ Htok
  ihave HS' := (Entails.of_eq (bigSep_zero (F := F) (BI.own (ES (initSlots (Finset.univ : Finset Key) 3)))).symm) $$ HS
  unfold G; simp only [bigSep_sep']
  isplitl [Hst']; · iexact Hst'
  isplitl [Hat']; · iexact Hat'
  isplitl [Hr']; · iexact Hr'
  isplitl [Htok']; · iexact Htok'
  iexact HS'

theorem fund_all : (ownU u₀ : sProp (MT nD τ sig ℕ (Elt F) ℕ UU ℕ)) ⊢ |==> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb (ERest (F := F)) _ _) $$ HX
  icases H with ⟨HR, HX⟩
  ihave H := (own_pair_emb ((Emb.inr : Emb (USlots Key × Counters) (UB × (USlots Key × Counters))).trans (ERest (F := F))) _ _) $$ HX
  icases H with ⟨HS, -⟩
  imod (fund_ring m) $$ [HR HS] with HG
  · isplitl [HR]; · iexact HR
    iexact HS
  imodintro
  isplitl [HP] <;> iassumption

/-! ## The semaphores, and what each device takes into its body -/

/-- The kernel's own semaphores, listed. -/
def ownS : Fin 12 → SemLoc sig
  | 0 => osem (.send false false) | 1 => osem (.send false true) | 2 => osem (.send true false) | 3 => osem (.send true true)
  | 4 => osem (.recv false false) | 5 => osem (.recv false true) | 6 => osem (.recv true false) | 7 => osem (.recv true true)
  | 8 => osem (.cred false) | 9 => osem (.cred true) | 10 => .dma (stageS false) | 11 => .dma (stageS true)
theorem ownSemFacts : Pipeline.OwnSemFacts cfg0.spec ownS := by decide

theorem ownSems0_eq (c : Dev nD) : (Pipeline.ownSems0 (Ix := ℕ) (Name := ℕ) (U := UU) (Lvl := ℕ) (Val := Elt F) (τ := τ) ownS c : sProp (MT nD τ sig ℕ (Elt F) ℕ UU ℕ))
    = iprop(semVal (sendCell c false false) 0 ∗ semVal (sendCell c false true) 0 ∗ semVal (sendCell c true false) 0 ∗ semVal (sendCell c true true) 0
      ∗ semVal (recvCell c false false) 0 ∗ semVal (recvCell c false true) 0 ∗ semVal (recvCell c true false) 0 ∗ semVal (recvCell c true true) 0
      ∗ semVal (credCell c false) 0 ∗ semVal (credCell c true) 0
      ∗ semVal ((c : Thread nD τ), .dma (stageS false)) 0 ∗ semVal ((c : Thread nD τ), .dma (stageS true)) 0) := by
  rw [Pipeline.ownSems0_eq_of_list c ownS [0, 1, 2, 3, 4, 5, 6, 7, 8, 9, 10, 11] (by decide) (by decide)]; rfl
theorem unscopedSems0_eq (c : Dev nD) : (unscopedSems0 c : sProp (MT nD τ sig ℕ (Elt F) ℕ UU ℕ)) = semVal (barCell c) 0 := by
  unfold unscopedSems0; rw [bigSep_eq_bigSepL_of_eq [SemLoc.reg barS] (by decide) (by decide)]; rfl

def stage0 (c : Dev nD) : sProp (MT nD τ sig ℕ (Elt F) ℕ UU ℕ) := iprop(semVal ((c : Thread nD τ), .dma (stageS false)) 0 ∗ semVal ((c : Thread nD τ), .dma (stageS true)) 0)

theorem sems0_eq (c : Dev nD) : iprop(Pipeline.ownSems0 (Ix := ℕ) (Name := ℕ) (U := UU) (Lvl := ℕ) (Val := Elt F) (τ := τ) ownS c ∗ unscopedSems0 c)
      ⊢ (iprop((bigSep Finset.univ fun k : CK => semVal (kcell (c, k)) 0) ∗ stage0 c) : sProp (MT nD τ sig ℕ (Elt F) ℕ UU ℕ)) := by
  rw [ownSems0_eq, unscopedSems0_eq, bigSep_CK]
  unfold stage0
  iintro ⟨⟨H0, H1, H2, H3, H4, H5, H6, H7, H8, H9, H10, H11⟩, HB⟩
  iframe

/-- One device's cells opened. -/
def opened (c : Dev nD) : sProp (MT nD τ sig ℕ (Elt F) ℕ UU ℕ) :=
  iprop((bigSep Finset.univ fun k : CK => iprop(∃ κ : ℕ, cellInv ER (ringRd m) κ (kcell (c, k)))) ∗ (bigSep Finset.univ fun k : CK => atPos ER (kcell (c, k)) 0 ∅ 0)
    ∗ (bigSep Finset.univ fun k : CK => reached ER (kcell (c, k)) 0) ∗ (bigSep Finset.univ fun ρ : Bool => toks c ρ) ∗ slot0 c ∗ stage0 c)

theorem core_alloc (c : Dev nD) : iprop(Pipeline.ownSems0 (Ix := ℕ) (Name := ℕ) (U := UU) (Lvl := ℕ) (Val := Elt F) (τ := τ) ownS c ∗ unscopedSems0 c ∗ G m c)
      ⊢ |={Set.univ}=> opened m c := by
  unfold G opened
  iintro ⟨Hos, Hus, Hst, Hrest⟩
  ihave Hv := (sems0_eq (F := F) c) $$ [Hos Hus]
  · isplitl [Hos] <;> iassumption
  icases Hv with ⟨Hv, Hsg⟩
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp (MT nD τ sig ℕ (Elt F) ℕ UU ℕ)) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  icases Hrest with ⟨H1, H2, H3, H4⟩
  isplitl [H1]; · iexact H1
  isplitl [H2]; · iexact H2
  isplitl [H3]; · iexact H3
  isplitl [H4]; · iexact H4
  iexact Hsg

/-- The shared records: every cell's invariant, every landing slot's, every cell's first round. -/
def records (κ : Dev nD × CK → ℕ) (κs : Key → ℕ) : sProp (MT nD τ sig ℕ (Elt F) ℕ UU ℕ) :=
  iprop((bigSep Finset.univ fun x : Dev nD × CK => cellInv ER (ringRd m) (κ x) (kcell x)) ∗ (bigSep Finset.univ fun k : Key => slotInv ES (κs k) k (Sl k))
    ∗ bigSep Finset.univ fun x : Dev nD × CK => reached ER (kcell x) 0)
instance records_persistent (κ : Dev nD × CK → ℕ) (κs : Key → ℕ) : BI.Persistent (records m κ κs) := by unfold records; infer_instance

/-- What is each device's own. -/
def linear (c : Dev nD) : sProp (MT nD τ sig ℕ (Elt F) ℕ UU ℕ) :=
  iprop((bigSep Finset.univ fun k : CK => atPos ER (kcell (c, k)) 0 ∅ 0) ∗ (bigSep Finset.univ fun ρ : Bool => bigSep Finset.univ fun s : Bool => readerAt ES (c, ρ, s) 0)
    ∗ TokR c false ∗ TokR c true ∗ stage0 c)
/-- What the opening of all cells and slots leaves with device `c`. -/
def G' (c : Dev nD) : sProp (MT nD τ sig ℕ (Elt F) ℕ UU ℕ) :=
  iprop(∃ (κ : Dev nD × CK → ℕ) (κs : Key → ℕ), records m κ κs ∗ atPos ER (barCell c) 0 ∅ 0 ∗ (PosR c false ∗ TokR c false) ∗ (PosR c true ∗ TokR c true) ∗ stage0 c)

theorem ghost_intro (κ : Dev nD × CK → ℕ) (κs : Key → ℕ) (c : Dev nD) : iprop(records m κ κs ∗ linear c) ⊢ G' m c := by
  unfold linear G' PosR
  rw [bigSep_CK, bigSep_bool, bigSep_bool, bigSep_bool]
  iintro ⟨#HR, ⟨A0, A1, A2, A3, A4, A5, A6, A7, A8, A9, A10⟩, ⟨⟨R0, R1⟩, R2, R3⟩, T0, T1, Hs⟩
  iexists κ
  iexists κs
  isplitr; · iexact HR
  iframe

theorem regroup : bigSep Finset.univ (opened m) ⊢ (|={Set.univ}=> bigSep Finset.univ (G' m) : sProp (MT nD τ sig ℕ (Elt F) ℕ UU ℕ)) := by
  unfold opened
  rw [bigSep_sep', bigSep_sep', bigSep_sep', bigSep_sep', bigSep_sep',
    ← bigSep_univ_prod (fun x : Dev nD × CK => iprop(∃ κ : ℕ, cellInv ER (ringRd m) κ (kcell x))),
    ← bigSep_univ_prod (fun x : Dev nD × CK => (reached ER (kcell x) 0 : sProp (MT nD τ sig ℕ (Elt F) ℕ UU ℕ)))]
  iintro ⟨HI, Hat, #HR, Htok, Hsl, Hsg⟩
  ihave HK := (BI.bigSep_exists_pi Finset.univ (fun (x : Dev nD × CK) (κ : ℕ) => (cellInv ER (ringRd m) κ (kcell x) : sProp (MT nD τ sig ℕ (Elt F) ℕ UU ℕ)))) $$ HI
  icases HK with ⟨%κ, #HI⟩
  unfold slot0
  ihave Hsl := (Entails.of_eq (bigSep_zero (F := F) (BI.own (ES (initSlots (Finset.univ : Finset Key) 3))))) $$ Hsl
  imod (slots_init (E := ES) (Es := Set.univ) (Finset.univ : Finset Key) 3 (Sl (F := F))) $$ Hsl with ⟨%κs, -, #HS, Hrd, Hw⟩
  imodintro
  ihave Hw := (wtoks_of (F := F)) $$ Hw
  ihave Hw := (Entails.of_eq (bigSep_univ_comm fun (c : Dev nD) (ρ : Bool) => (wtoks c ρ : sProp (MT nD τ sig ℕ (Elt F) ℕ UU ℕ)))) $$ Hw
  ihave Hw := (Entails.of_eq (bigSep_bool fun ρ => (bigSep Finset.univ fun c : Dev nD => wtoks c ρ : sProp (MT nD τ sig ℕ (Elt F) ℕ UU ℕ)))) $$ Hw
  icases Hw with ⟨Hwf, Hwt⟩
  ihave Htok := (Entails.of_eq (bigSep_univ_comm fun (c : Dev nD) (ρ : Bool) => (toks c ρ : sProp (MT nD τ sig ℕ (Elt F) ℕ UU ℕ)))) $$ Htok
  ihave Htok := (Entails.of_eq (bigSep_bool fun ρ => (bigSep Finset.univ fun c : Dev nD => toks c ρ : sProp (MT nD τ sig ℕ (Elt F) ℕ UU ℕ)))) $$ Htok
  icases Htok with ⟨Htf, Htt⟩
  ihave Hf := (toks_around (F := F) false) $$ [Htf Hwf]
  · isplitl [Htf] <;> iassumption
  ihave Ht := (toks_around (F := F) true) $$ [Htt Hwt]
  · isplitl [Htt] <;> iassumption
  ihave Hrd := (Entails.of_eq (show (bigSep (Finset.univ : Finset Key) fun k => (readerAt ES k 0 : sProp (MT nD τ sig ℕ (Elt F) ℕ UU ℕ)))
      = bigSep Finset.univ fun c : Dev nD => bigSep Finset.univ fun ρ : Bool => bigSep Finset.univ fun s : Bool => readerAt ES (c, ρ, s) 0 from by
    rw [bigSep_univ_prod]; exact bigSep_congr fun c _ => bigSep_univ_prod _)) $$ Hrd
  iapply (bigSep_with_persistent (R := records m κ κs) (Φ := fun c => linear c) fun c _ => ghost_intro m κ κs c)
  isplitr
  · unfold records
    isplitr; · iexact HI
    isplitr; · iexact HS
    iexact HR
  unfold linear; simp only [bigSep_sep']
  isplitl [Hat]; · iexact Hat
  isplitl [Hrd]; · iexact Hrd
  isplitl [Hf]; · iexact Hf
  isplitl [Ht]; · iexact Ht
  iexact Hsg

/-- The opening of all cells and slots, at once for all devices. -/
theorem glob : (bigSep Finset.univ fun c => iprop(Pipeline.ownSems0 (Ix := ℕ) (Name := ℕ) (U := UU) (Lvl := ℕ) (Val := Elt F) (τ := τ) ownS c ∗ unscopedSems0 c ∗ G m c) : sProp (MT nD τ sig ℕ (Elt F) ℕ UU ℕ))
    ⊢ |={Set.univ}=> bigSep Finset.univ (G' m) := by
  have h : iprop(|={Set.univ}=> bigSep Finset.univ (opened m)) ⊢ (|={Set.univ}=> bigSep Finset.univ (G' m) : sProp (MT nD τ sig ℕ (Elt F) ℕ UU ℕ)) := by
    iintro H
    imod H with H
    iapply (regroup m)
    iexact H
  exact ((bigSep_mono fun c _ => core_alloc m c).trans (bigSep_fupd _ _)).trans h

end Cert.RingProof

end
-- ==== Proof.Launch.lean ====
/-
# The run

The launch of the kernel's one pipeline: the credits, the side conditions, and what every final state holds.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρs : Dev nD → PrngReg)

/-! ## The launch credit -/

/-- The credits a device starts with, in the order its neighbours pay them. -/
theorem creds_list (c : Dev nD) : (bigSep (Finset.Ico 0 22) fun i => (cred (tallyAt (kcell (c, (payAt i).kind)) (ix i) (amt (payAt i).kind)) : sProp (MT nD τ sig ℕ (Elt F) ℕ UU ℕ))) = iprop(cred (tallyAt (barCell c) 2 1)
      ∗ cred (tallyAt (barCell c) 2 1)
      ∗ cred (tallyAt (recvCell c false false) 3 N)
      ∗ cred (tallyAt (recvCell c true false) 4 N)
      ∗ cred (tallyAt (credCell c false) 5 1)
      ∗ cred (tallyAt (recvCell c false true) 6 N)
      ∗ cred (tallyAt (credCell c true) 7 1)
      ∗ cred (tallyAt (recvCell c true true) 8 N)
      ∗ cred (tallyAt (credCell c false) 9 1)
      ∗ cred (tallyAt (recvCell c false false) 10 N)
      ∗ cred (tallyAt (credCell c true) 11 1)
      ∗ cred (tallyAt (recvCell c true false) 12 N)
      ∗ cred (tallyAt (credCell c false) 13 1)
      ∗ cred (tallyAt (recvCell c false true) 14 N)
      ∗ cred (tallyAt (credCell c true) 15 1)
      ∗ cred (tallyAt (recvCell c true true) 16 N)
      ∗ cred (tallyAt (credCell c false) 17 1)
      ∗ cred (tallyAt (recvCell c false false) 18 N)
      ∗ cred (tallyAt (credCell c true) 19 1)
      ∗ cred (tallyAt (recvCell c true false) 20 N)
      ∗ cred (tallyAt (recvCell c false true) 21 N)
      ∗ cred (tallyAt (recvCell c true true) 22 N)) :=
  bigSep_eq_bigSepL_of_eq [0, 1, 2, 3, 4, 5, 6, 7, 8, 9, 10, 11, 12, 13, 14, 15, 16, 17, 18, 19, 20, 21] (by decide) (by decide) _

theorem CrR_false (c : Dev nD) : (CrR c false : sProp (MT nD τ sig ℕ (Elt F) ℕ UU ℕ)) = iprop((cred (tallyAt (recvCell c false false) 3 N) ∗ cred (tallyAt (recvCell c false true) 6 N) ∗ cred (tallyAt (recvCell c false false) 10 N) ∗ cred (tallyAt (recvCell c false true) 14 N) ∗ cred (tallyAt (recvCell c false false) 18 N) ∗ cred (tallyAt (recvCell c false true) 21 N))
      ∗ cred (tallyAt (credCell c false) 5 1) ∗ cred (tallyAt (credCell c false) 9 1) ∗ cred (tallyAt (credCell c false) 13 1) ∗ cred (tallyAt (credCell c false) 17 1)) := by
  unfold CrR; rw [bigSep_six, bigSep_four]; rfl
theorem CrR_true (c : Dev nD) : (CrR c true : sProp (MT nD τ sig ℕ (Elt F) ℕ UU ℕ)) = iprop((cred (tallyAt (recvCell c true false) 4 N) ∗ cred (tallyAt (recvCell c true true) 8 N) ∗ cred (tallyAt (recvCell c true false) 12 N) ∗ cred (tallyAt (recvCell c true true) 16 N) ∗ cred (tallyAt (recvCell c true false) 20 N) ∗ cred (tallyAt (recvCell c true true) 22 N))
      ∗ cred (tallyAt (credCell c true) 7 1) ∗ cred (tallyAt (credCell c true) 11 1) ∗ cred (tallyAt (credCell c true) 15 1) ∗ cred (tallyAt (credCell c true) 19 1)) := by
  unfold CrR; rw [bigSep_six, bigSep_four]; rfl

theorem creds_of (c : Dev nD) : (Pipeline.launchCred (fun d => owed d 0) c : sProp (MT nD τ sig ℕ (Elt F) ℕ UU ℕ))
    ⊢ bigSep (Finset.Ico 0 22) fun i => cred (tallyAt (kcell (c, (payAt i).kind)) (ix i) (amt (payAt i).kind)) :=
  (Entails.of_eq (Pipeline.launchCred_sum (Finset.Ico 0 22) (fun i d => tallyAt (kcell ((payAt i).to d, (payAt i).kind)) (ix i) (amt (payAt i).kind)) c)).trans
    (bigSep_mono fun i _ => Pipeline.launchCred_tallyAt (osem (payAt i).kind) (payAt i).to (payAt i).frm (payAt i).to_frm (payAt i).frm_to (ix i) (amt (payAt i).kind) c)

theorem creds (c : Dev nD) : (Pipeline.launchCred (fun d => owed d 0) c : sProp (MT nD τ sig ℕ (Elt F) ℕ UU ℕ)) ⊢ iprop(cred (tallyAt (barCell c) 2 2) ∗ CrR c false ∗ CrR c true) := by
  refine (creds_of c).trans ?_
  rw [creds_list, CrR_false, CrR_true, show (tallyAt (barCell c) 2 2 : CellTallies nD τ sig ℕ) = tallyAt (barCell c) 2 1 + tallyAt (barCell c) 2 1 from
    (tallyAt_add _ _ 1 1).symm]
  iintro ⟨B0, B1, D00, D10, C00, D01, C10, D11, C01, D02, C11, D12, C02, D03, C12, D13, C03, D04, C13, D14, D05, D15⟩
  isplitl [B0 B1]
  · iapply ((cred_add (tallyAt (barCell c) 2 1) (tallyAt (barCell c) 2 1)).2)
    isplitl [B0] <;> iassumption
  isplitl [D00 D01 D02 D03 D04 D05 C00 C01 C02 C03]
  · isplitl [D00 D01 D02 D03 D04 D05]
    · isplitl [D00]; · iexact D00
      isplitl [D01]; · iexact D01
      isplitl [D02]; · iexact D02
      isplitl [D03]; · iexact D03
      isplitl [D04]; · iexact D04
      iexact D05
    isplitl [C00]; · iexact C00
    isplitl [C01]; · iexact C01
    isplitl [C02]; · iexact C02
    iexact C03
  isplitl [D10 D11 D12 D13 D14 D15]
  · isplitl [D10]; · iexact D10
    isplitl [D11]; · iexact D11
    isplitl [D12]; · iexact D12
    isplitl [D13]; · iexact D13
    isplitl [D14]; · iexact D14
    iexact D15
  isplitl [C10]; · iexact C10
  isplitl [C11]; · iexact C11
  isplitl [C12]; · iexact C12
  iexact C13

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρs c) ∗ G' m c)
      ⊢ |={Set.univ}=> iprop(start m c ∗ emp) := by
  rw [Pipeline.unscopedRestP_none, unscopedRest0_eq]
  unfold G' stage0
  iintro ⟨Hx, #Hlev, Hcr, -, ⟨%κ, %κs, #HR, Hb, ⟨Pf, Tf⟩, ⟨Pt, Tt⟩, S0, S1⟩⟩
  ihave Hc := (creds (F := F) c) $$ Hcr
  icases Hc with ⟨HB, Cf, Ct⟩
  imodintro
  unfold start
  isplitl
  · isplitr
    · iexists κ
      iexists κs
      unfold Env records
      icases HR with ⟨#H1, #H2, #H3⟩
      isplitr; · iexact H1
      isplitr; · iexact H2
      isplitr; · iexact Hlev
      iexact H3
    isplitl [Hb]; · iexact Hb
    isplitl [HB]; · iexact HB
    isplitl [Pf Tf Cf]
    · isplitl [Pf]; · iexact Pf
      isplitl [Tf] <;> iassumption
    isplitl [Pt Tt Ct]
    · isplitl [Pt]; · iexact Pt
      isplitl [Tt] <;> iassumption
    isplitl [S0]; · iexact S0
    isplitl [S1]; · iexact S1
    unfold Inp
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, Hr⟩
  isplitl [Hs]; · iexact Hs
  iexact Hr

theorem phi1_exit (c : Dev nD) :
    (dats m 0 c).Φ (Fin.last cfg0.N) ⊢ iprop((unscopedSems0 c ∗ Inp m c) ∗ Pipeline.ownSems0 ownS c ∗ Pipeline.scopedRest cfg0.spec c) := by
  rw [show (dats m 0 c).Φ (Fin.last cfg0.N) = Φ₁ m c from rfl, scopedRest0_eq, ownSems0_eq, unscopedSems0_eq]
  unfold Φ₁ ZeroR Scr
  iintro ⟨Hr, Hi, HB, ⟨H0, H1, H4, H5, H8⟩, ⟨H2, H3, H6, H7, H9⟩, H10, H11⟩
  isplitl [HB Hi]
  · isplitl [HB] <;> iassumption
  isplitr [Hr]
  · iframe
  iexact Hr

theorem waits (c : Dev nD) : (levAts L lv : sProp (MT nD τ sig ℕ (Elt F) ℕ UU ℕ)) ⊢ Pipeline.cellsWaits cfgs (dats m) 0 0 c :=
  Pipeline.cellsWaits_intro cfgs (dats m) 0 0 c fun w s t => by
    rcases t with ⟨_ | _, ht⟩
    · exact mayWait c _ 0 0 le_rfl (by decide)
    · show (levAts L lv : sProp (MT nD τ sig ℕ (Elt F) ℕ UU ℕ)) ⊢ MayWait _ _ 0 0
      rw [← owed_end c]; exact mayWait c _ 0 22 (by decide) (by decide)

/-! ## The run -/

/-- What an array of a window holds after the run. -/
def finalA (c : Dev nD) (w : Fin cfg0.W) : Buf (Elt F) ((cfg0.win w).arr.view.loc (c : Thread nD τ)) := (dats m 0 c).arrAt w cfg0.N

/-- The input array is still what it was. -/
theorem read_inp (c : Dev nD) (s' : Phys nD τ sig (Elt F)) :
    iprop(Inp m c ∗ SI s') ⊢ (iprop(⌜s'.mem.mem ((c : Thread nD τ).loc main_arg0) = m ((c : Thread nD τ).loc main_arg0)⌝ ∗ SI s') : sProp (MT nD τ sig ℕ (Elt F) ℕ UU ℕ)) := by
  unfold Inp
  iintro ⟨HI, HS⟩
  ihave %h := (SI_pointsTo_agree (st := s')) $$ [HS HI]
  · isplitl [HS]; · iexact HS
    iexact HI
  isplitr
  · ipureintro; funext i; exact h i (Finset.mem_univ i)
  iexact HS

set_option maxRecDepth 8000 in
/-- At the compiled mesh of four devices, for any float values, from any memory with zero counters: every weakly fair
    execution of @main terminates, and every final state has the input array unchanged, each window's array at its
    final contents and every semaphore counter at zero. -/
theorem run_windows : θ_run defs (onTc (τ := τ) (main (F := F))) (s₀ m ρs) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρs main
    (hmain := fun _ => rfl)
    (hbody := body_obligation m) (hne := block_pos0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G m) (G' := G' m) (u₀ := u₀)
    (hu₀ := by
      iintro H
      imod (fund_all m) $$ H with H
      imodintro
      iexact H)
    (hglob := glob m)
    (hA := fun _ _ => rfl) (hpf := fun _ k => k.elim0)
    (X := start m) (Y := fun c => iprop(unscopedSems0 c ∗ Inp m c)) (Z := fun _ => iprop(emp))
    (hX := start_intro m ρs) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hi⟩, -, HSI⟩
      ihave H := (read_inp m c s') $$ [Hi HSI]
      · isplitl [Hi] <;> iassumption
      icases H with ⟨%hi, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hz, hi⟩
      iexact HSI)
    (hQ := fun _ h hs => ⟨fun c => ⟨fun w => (h c).1 w, (h c).2.2.2⟩, sem_eq_zero hs fun c => (h c).2.2.1⟩)

/-- The taps and the weights after the run are what they were; -/
theorem finalA_k (c : Dev nD) : finalA m c (0 : Fin 3) = m ((c : Thread nD τ).loc main_arg1) := (dats (F := F) m 0 c).arrAt_in (0 : Fin 3) rfl _
theorem finalA_w (c : Dev nD) : finalA m c (1 : Fin 3) = m ((c : Thread nD τ).loc main_arg2) := (dats (F := F) m 0 c).arrAt_in (1 : Fin 3) rfl _

/-- An index of the result, under the one block the result's window has, is itself. -/
theorem emb_out (i : S4x2048x1024.Idx) : ((cfg0.win (2 : Fin 3)).blk t0_0).view.emb i = i := by
  funext a
  refine Fin.ext ?_
  refine (ValueKit.rect_emb_unit_val _ _ _ _ a).trans ?_
  match a with
  | ⟨0, _⟩ => exact Nat.zero_add _
  | ⟨1, _⟩ => exact Nat.zero_add _
  | ⟨2, _⟩ => exact Nat.zero_add _

/-- the result is what the body left. -/
theorem finalA_out (c : Dev nD) : finalA m c (2 : Fin 3) = outAt m c := by
  refine (dats (F := F) m 0 c).arrAt_eq_of_cover (2 : Fin 3) (outAt m c) (fun t _ => ?_) (fun i => ⟨t0_0, flush0_2 t0_0, ?_⟩)
  · rw [fin_N0 t]
    funext i
    refine Eq.trans ?_ (congrArg (outAt m c) (emb_out i)).symm
    rfl
  · have h := ((cfg0.win (2 : Fin 3)).blk t0_0).view.emb_mem_set i
    rw [emb_out] at h
    exact h

/-- At the compiled mesh of four devices, for any float values, from any memory with zero counters: every weakly fair
    execution of @main terminates, and every final state has the three argument arrays unchanged, each device's result
    array at the computed contents and every semaphore counter at zero. -/
theorem run_main : θ_run defs (onTc (τ := τ) (main (F := F))) (s₀ m ρs) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run _ _ _).mono (fun r h => ⟨fun c => ⟨((h.1 c).1 (2 : Fin 3)).trans (finalA_out m c), (h.1 c).2,
    ((h.1 c).1 (0 : Fin 3)).trans (finalA_k m c), ((h.1 c).1 (1 : Fin 3)).trans (finalA_w m c)⟩, h.2⟩) (run_windows m ρs)

end Cert.RingProof

end
-- ==== Proof.Same.lean ====
module

public import proofs.«01_k».proof.Defs
public import proofs.«01_k».proof.Proof.Gen.Kernel
public import proofs.«01_k».proof.Proof.Gen.KernelIdeal

/-!
# The kernel and its ideal reading have the same text

The two programs print alike, so what is proved of one over any float values is proved of the other.
-/

@[expose] public section

noncomputable section

open Idealize.ShloMosaic

namespace Cert.RingProof

variable {F : FTy → Type} [FloatOps F]

/-- The two kernel bodies are the same program. -/
theorem body_same : Cert.Kernel.cc0_body (F := F) = Cert.KernelIdeal.cc0_body (F := F) := rfl

/-- The two body tables are the same. -/
theorem defs₀_same : Cert.Kernel.defs₀ (F := F) = Cert.KernelIdeal.defs₀ (F := F) := by
  unfold Cert.Kernel.defs₀ Cert.KernelIdeal.defs₀
  refine congrArg Defs.onTc (funext fun l => ?_)
  match l with
  | 0 =>
    refine funext fun a => ?_
    rw [body_same]

/-- The two program tables are the same. -/
theorem defs_same : Cert.Kernel.defs (F := F) = Cert.KernelIdeal.defs (F := F) :=
  congrArg (Pipeline.defs Cert.KernelIdeal.pcfgs) defs₀_same

/-- The two host programs are the same. -/
theorem main_same : Cert.Kernel.main (F := F) = Cert.KernelIdeal.main (F := F) := rfl

end Cert.RingProof

end
-- ==== Proof.Part.lean ====
module

public import proofs.«01_k».proof.Proof.Split
public import Idealize.ShloMosaic.Lib.Pointwise
public import Idealize.ShloMosaic.Lib.IdealHost

/-!
# A device's partial product, element by element
-/

@[expose] public section

noncomputable section

open Idealize.ShloMosaic Cert.KernelIdeal Cert.KernelIdeal.Gen

namespace Cert.RingProof

/-- The gate: `c / (1 + exp (-c))`. -/
def gate (c : EReal) : EReal := Ideal.div c (1 + Ideal.exp (-c))

/-- Four taps, each a product, summed from the first. -/
def taps (s k : Fin 4 → EReal) : EReal := s 0 * k 0 + s 1 * k 1 + s 2 * k 2 + s 3 * k 3

/-- An exponential is not negative. -/
theorem exp_nonneg (x : EReal) : 0 ≤ Ideal.exp x := by
  induction x using EReal.rec with
  | bot => simp
  | coe r => rw [Ideal.exp_coe]; exact_mod_cast (Real.exp_pos r).le
  | top => simp

/-- A value times its logistic is the gate. -/
theorem mul_logistic (c : EReal) : c * Ideal.logistic c = gate c := by
  have h : (1 : EReal) + Ideal.exp (-c) ≠ 0 :=
    ne_of_gt (lt_of_lt_of_le zero_lt_one (le_add_of_nonneg_right (exp_nonneg _)))
  rw [Ideal.logistic, gate]
  exact Ideal.mul_one_div h

/-- Tap row `t` of the staged taps. -/
theorem krow_apply (m : (ℓ : Loc nD τ sig) → Buf (Elt Ideal) ℓ) (c : Dev nD) (t : Fin 4)
    (inb : ∀ a, ![t.val, 0] a + S1x1024.size a ≤ S4x1024.size a) (q : Fin 1024) :
    krow m c ![t.val, 0] inb (ix2 0 q) = kst m c (ix2 t q) := by
  refine congrArg (kst m c) (funext fun a => Fin.ext ?_)
  match a with
  | ⟨0, _⟩ => exact Nat.add_zero _
  | ⟨1, _⟩ => show 0 + _ = _; simp

set_option maxRecDepth 16384 in
/-- Device `c`'s partial product for half `ρ` of chunk `k`, at row `r` of the half and column `p`: over the device's
    channels, the gated convolution times the device's rows of the matrix. -/
theorem yv_apply (m : (ℓ : Loc nD τ sig) → Buf (Elt Ideal) ℓ) (c : Dev nD) (k : Fin 4) (ρ : Bool) (r p : Fin 1024) :
    yv m c k ρ (pix r p) = ∑ q : Fin 1024,
      gate (taps (fun t => seg m c k ρ (ix3 0 ⟨t.val + r.val, by omega⟩ q)) (fun t => kst m c (ix2 t q)))
        * wst m c (ix2 q p) := by
  have e : pix r p = ix3 0 r p := by
    funext a; fin_cases a <;> rfl
  have h0 := krow_apply m c 0 inb_S4x1024_S1x1024_0_0
  have h1 := krow_apply m c 1 inb_S4x1024_S1x1024_1_0
  have h2 := krow_apply m c 2 inb_S4x1024_S1x1024_2_0
  have h3 := krow_apply m c 3 inb_S4x1024_S1x1024_3_0
  have z : ∀ h : (0 : Fin 4).val + r.val < 1027, (⟨(0 : Fin 4).val + r.val, h⟩ : Fin 1027) = ⟨r.val, by omega⟩ :=
    fun h => Fin.ext (Nat.zero_add _)
  rw [e]
  pointwise [yv, k0_pay15, k0_pay14, k0_pay2]
  refine Finset.sum_congr rfl fun q _ => ?_
  rw [mul_logistic, taps, z, ← h0 q, ← h1 q, ← h2 q, ← h3 q]
  rfl

end Cert.RingProof

end
-- ==== Proof.RingSum.lean ====
module

public import proofs.«01_k».proof.Proof.Part

/-!
# The ring sums

What every device ends with is the sum over the devices of their partial products, whichever device started the chain.
-/

@[expose] public section

noncomputable section

open Idealize.ShloMosaic Cert.KernelIdeal Cert.KernelIdeal.Gen

namespace Cert.RingProof

variable (m : (ℓ : Loc nD τ sig) → Buf (Elt Ideal) ℓ)

/-- The sum of two pieces, element by element. -/
theorem pay16_apply (a b : Vec Ideal S1x1024x1024 .bf16) (r p : Fin 1024) :
    k0_pay16 (F := Ideal) a b (pix r p) = a (pix r p) + b (pix r p) := by
  have e : pix r p = ix3 0 r p := by
    funext a; fin_cases a <;> rfl
  rw [e]
  pointwise [k0_pay16]

/-- A sum taken around the ring from any device is the sum over the devices. -/
theorem sum_ring (f : Dev nD → EReal) (ρ : Bool) (c : Dev nD) :
    f c + (f (up ρ c) + (f (up ρ (up ρ c)) + f (up ρ (up ρ (up ρ c))))) = ∑ d : Dev nD, f d := by
  have h : ∑ d : Dev nD, f d = f 0 + f 1 + f 2 + f 3 := Fin.sum_univ_four f
  rw [h]
  have e : ∀ (ρ : Bool) (c : Dev nD),
      (c = 0 ∧ ρ = false ∧ up ρ c = 3 ∧ up ρ (up ρ c) = 2 ∧ up ρ (up ρ (up ρ c)) = 1)
      ∨ (c = 1 ∧ ρ = false ∧ up ρ c = 0 ∧ up ρ (up ρ c) = 3 ∧ up ρ (up ρ (up ρ c)) = 2)
      ∨ (c = 2 ∧ ρ = false ∧ up ρ c = 1 ∧ up ρ (up ρ c) = 0 ∧ up ρ (up ρ (up ρ c)) = 3)
      ∨ (c = 3 ∧ ρ = false ∧ up ρ c = 2 ∧ up ρ (up ρ c) = 1 ∧ up ρ (up ρ (up ρ c)) = 0)
      ∨ (c = 0 ∧ ρ = true ∧ up ρ c = 1 ∧ up ρ (up ρ c) = 2 ∧ up ρ (up ρ (up ρ c)) = 3)
      ∨ (c = 1 ∧ ρ = true ∧ up ρ c = 2 ∧ up ρ (up ρ c) = 3 ∧ up ρ (up ρ (up ρ c)) = 0)
      ∨ (c = 2 ∧ ρ = true ∧ up ρ c = 3 ∧ up ρ (up ρ c) = 0 ∧ up ρ (up ρ (up ρ c)) = 1)
      ∨ (c = 3 ∧ ρ = true ∧ up ρ c = 0 ∧ up ρ (up ρ c) = 1 ∧ up ρ (up ρ (up ρ c)) = 2) := by decide
  rcases e ρ c with h | h | h | h | h | h | h | h <;>
    · obtain ⟨h0, -, h1, h2, h3⟩ := h
      rw [h3, h2, h1, h0]
      ac_rfl

/-- After three hops the chain holds the sum over the devices of their partial products of its chunk. -/
theorem V_three (ρ : Bool) (c : Dev nD) (r p : Fin 1024) :
    V m ρ 3 c (pix r p) = ∑ d : Dev nD, yv m d ⟨ch c ρ 3, ch_lt c ρ 3⟩ ρ (pix r p) := by
  have e2 : ∀ (ρ : Bool) (c : Dev nD), (⟨ch (up ρ c) ρ 2, ch_lt _ ρ 2⟩ : Fin 4) = ⟨ch c ρ 3, ch_lt c ρ 3⟩ := by decide
  have e1 : ∀ (ρ : Bool) (c : Dev nD), (⟨ch (up ρ (up ρ c)) ρ 1, ch_lt _ ρ 1⟩ : Fin 4) = ⟨ch c ρ 3, ch_lt c ρ 3⟩ := by decide
  have e0 : ∀ (ρ : Bool) (c : Dev nD),
      (⟨ch (up ρ (up ρ (up ρ c))) ρ 0, ch_lt _ ρ 0⟩ : Fin 4) = ⟨ch c ρ 3, ch_lt c ρ 3⟩ := by decide
  rw [← sum_ring (fun d => yv m d ⟨ch c ρ 3, ch_lt c ρ 3⟩ ρ (pix r p)) ρ c]
  show k0_pay16 (yv m c ⟨ch c ρ 3, ch_lt c ρ 3⟩ ρ) (k0_pay16 (yv m (up ρ c) ⟨ch (up ρ c) ρ 2, ch_lt _ ρ 2⟩ ρ)
    (k0_pay16 (yv m (up ρ (up ρ c)) ⟨ch (up ρ (up ρ c)) ρ 1, ch_lt _ ρ 1⟩ ρ)
      (yv m (up ρ (up ρ (up ρ c))) ⟨ch (up ρ (up ρ (up ρ c))) ρ 0, ch_lt _ ρ 0⟩ ρ))) (pix r p) = _
  rw [pay16_apply, pay16_apply, pay16_apply, e2, e1, e0]

/-- The piece that device `c` holds in the end of chunk `k` is the sum over the devices of their partial products. -/
theorem res_apply (c : Dev nD) (ρ : Bool) (k : Fin 4) (r p : Fin 1024) :
    res m c ρ (jof c ρ k.val) (pix r p) = ∑ d : Dev nD, yv m d k ρ (pix r p) := by
  have hk := ch_jof c ρ k
  have hj := jof_lt c ρ k.val
  generalize jof c ρ k.val = j at hk hj
  have key : ∀ d : Dev nD, ch d ρ 3 = k.val → V m ρ 3 d (pix r p) = ∑ d : Dev nD, yv m d k ρ (pix r p) := by
    intro d hd
    rw [V_three]
    have : (⟨ch d ρ 3, ch_lt d ρ 3⟩ : Fin 4) = k := Fin.ext hd
    rw [this]
  have s0 : ∀ (ρ : Bool) (c : Dev nD), ch (up ρ c) ρ 3 = ch c ρ 0 := by decide
  have s1 : ∀ (ρ : Bool) (c : Dev nD), ch (up ρ (up ρ c)) ρ 3 = ch c ρ 1 := by decide
  have s2 : ∀ (ρ : Bool) (c : Dev nD), ch (up ρ (up ρ (up ρ c))) ρ 3 = ch c ρ 2 := by decide
  match j, hj with
  | 0, _ => exact key (up ρ c) ((s0 ρ c).trans hk)
  | 1, _ => exact key (up ρ (up ρ c)) ((s1 ρ c).trans hk)
  | 2, _ => exact key (up ρ (up ρ (up ρ c))) ((s2 ρ c).trans hk)
  | 3, _ => exact key c hk

end Cert.RingProof

end
-- ==== Proof.RefValue.lean ====
module

public import proofs.«01_k».proof.Proof.Gen.ReferenceIdeal.Run
public import proofs.«01_k».proof.Proof.Part

/-!
# The reference's result, element by element
-/

@[expose] public section

noncomputable section

open Idealize.ShloMosaic Cert.ReferenceIdeal Cert.ReferenceIdeal.Gen Cert.ReferenceIdeal.Value

namespace Cert.RingProof

/-- Row `n` of the input with three rows of zeros in front. -/
def padded (x : (⟨3, ![4, 2048, 4096]⟩ : Shape).Idx → EReal) (b : Fin 4) (n : Fin 2051) (q : Fin 4096) : EReal :=
  if n.val < 3 then 0 else x (ix3 b ⟨n.val - 3, by omega⟩ q)

/-- The first tap's row, in the padded input. -/
theorem padded_zero (x : (⟨3, ![4, 2048, 4096]⟩ : Shape).Idx → EReal) (b : Fin 4) (s : Fin 2048) (q : Fin 4096)
    (h : (0 : Fin 4).val + s.val < 2051) :
    padded x b ⟨(0 : Fin 4).val + s.val, h⟩ q = if _h : s.val < 3 then 0 else x (ix3 b ⟨s.val - 3, by omega⟩ q) := by
  have e : (⟨(0 : Fin 4).val + s.val, h⟩ : Fin 2051) = ⟨s.val, by omega⟩ := Fin.ext (Nat.zero_add _)
  rw [e]
  rfl

/-- The last tap's row is the row itself. -/
theorem padded_three (x : (⟨3, ![4, 2048, 4096]⟩ : Shape).Idx → EReal) (b : Fin 4) (s : Fin 2048) (q : Fin 4096)
    (h : (3 : Fin 4).val + s.val < 2051) : padded x b ⟨(3 : Fin 4).val + s.val, h⟩ q = x (ix3 b s q) := by
  refine (if_neg (by show ¬ 3 + s.val < 3; omega)).trans ?_
  exact congrArg (fun t => x (ix3 b t q)) (Fin.ext (by show 3 + s.val - 3 = s.val; omega))

set_option maxRecDepth 16384 in
/-- The reference's result at batch `b`, row `s` and column `p`: over all channels, the gated convolution times the
    matrix. -/
theorem ref_apply (m : (ℓ : Loc nD τ sig) → Buf (Elt Ideal) ℓ) (b : Fin 4) (s : Fin 2048) (p : Fin 1024) :
    res_out0 m 0 (ix3 b s p) = ∑ q : Fin 4096,
      gate (taps (fun t => padded (m (((0 : Dev nD).tc : Thread nD τ).loc main_arg0)) b ⟨t.val + s.val, by omega⟩ q)
          (fun t => m (((0 : Dev nD).tc : Thread nD τ).loc main_arg1) (ix2 t q)))
        * m (((0 : Dev nD).tc : Thread nD τ).loc main_arg2) (ix2 q p) := by
  unfold res_out0 res_main_v39
  pointwise
  refine Finset.sum_congr (M := EReal) rfl fun q _ => ?_
  rw [taps, padded_zero, padded_three]
  rfl

end Cert.RingProof

end
-- ==== Proof.Value.lean ====
module

public import proofs.«01_k».proof.Proof.RingSum
public import proofs.«01_k».proof.Proof.RefValue
public import Idealize.ShloMosaic.Lib.LayoutAt

/-!
# The kernel's result is the reference's

From blocks of the reference's arrays, every device's result is the reference's: a device's partial product runs over
its own quarter of the channels, and the quarters together are all of them.
-/

@[expose] public section

noncomputable section

open Idealize.ShloMosaic

namespace Cert.RingProof

/-- The place of channel `q` of device `d` among all channels. -/
def chan (d : Fin 4) (q : Fin 1024) : Fin 4096 := ⟨d.val * 1024 + q.val, by omega⟩

/-- Block `d` of an array of three axes, cut along the last. -/
theorem block_last (x : (⟨3, ![4, 2048, 4096]⟩ : Shape).Idx → EReal) (d : Fin 4) (b : Fin 4) (s : Fin 2048) (q : Fin 1024)
    (h : Layout.Tiles ⟨3, ![4, 2048, 1024]⟩ ⟨3, ![4, 2048, 4096]⟩ 2 4) :
    Layout.block ⟨3, ![4, 2048, 1024]⟩ ⟨3, ![4, 2048, 4096]⟩ 2 4 d x h (ix3 b s q) = x (ix3 b s (chan d q)) := by
  refine congrArg x (funext fun a => Fin.ext ?_)
  match a with
  | ⟨0, _⟩ => rfl
  | ⟨1, _⟩ => rfl
  | ⟨2, _⟩ => rfl

/-- Block `d` of a matrix, cut along its columns. -/
theorem block_cols (k : (⟨2, ![4, 4096]⟩ : Shape).Idx → EReal) (d : Fin 4) (t : Fin 4) (q : Fin 1024)
    (h : Layout.Tiles ⟨2, ![4, 1024]⟩ ⟨2, ![4, 4096]⟩ 1 4) :
    Layout.block ⟨2, ![4, 1024]⟩ ⟨2, ![4, 4096]⟩ 1 4 d k h (ix2 t q) = k (ix2 t (chan d q)) := by
  refine congrArg k (funext fun a => Fin.ext ?_)
  match a with
  | ⟨0, _⟩ => rfl
  | ⟨1, _⟩ => rfl

/-- Block `d` of a matrix, cut along its rows. -/
theorem block_rows (w : (⟨2, ![4096, 1024]⟩ : Shape).Idx → EReal) (d : Fin 4) (q p : Fin 1024)
    (h : Layout.Tiles ⟨2, ![1024, 1024]⟩ ⟨2, ![4096, 1024]⟩ 0 4) :
    Layout.block ⟨2, ![1024, 1024]⟩ ⟨2, ![4096, 1024]⟩ 0 4 d w h (ix2 q p) = w (ix2 (chan d q) p) := by
  refine congrArg w (funext fun a => Fin.ext ?_)
  match a with
  | ⟨0, _⟩ => rfl
  | ⟨1, _⟩ => rfl

variable (m : (ℓ : Loc Cert.KernelIdeal.nD Cert.KernelIdeal.τ Cert.KernelIdeal.sig) → Buf (Elt Ideal) ℓ)

/-- The rows that a half is computed from are rows of the padded input. -/
theorem seg_padded (x : (⟨3, ![4, 2048, 4096]⟩ : Shape).Idx → EReal) (d : Fin 4)
    (hx : xst m d = Layout.block ⟨3, ![4, 2048, 1024]⟩ ⟨3, ![4, 2048, 4096]⟩ 2 4 d x)
    (b : Fin 4) (s : Fin 2048) (t : Fin 4) (q : Fin 1024) (h : t.val + s.val % 1024 < 1027) :
    seg m d b (decide (1024 ≤ s.val)) (ix3 0 ⟨t.val + s.val % 1024, h⟩ q) = padded x b ⟨t.val + s.val, by omega⟩ (chan d q) := by
  have e : ∀ n : Fin 2048, xst m d (xi b n q) = x (ix3 b n (chan d q)) := by
    intro n
    have i : xi b n q = ix3 b n q := by
      funext a
      fin_cases a <;> rfl
    rw [hx, i]
    exact block_last x d b n q _
  unfold padded
  by_cases hs : 1024 ≤ s.val
  · have c1 : decide (1024 ≤ s.val) = true := decide_eq_true hs
    rw [c1, if_neg (by show ¬ t.val + s.val < 3; omega)]
    refine (if_neg (fun hh => Bool.noConfusion hh.1)).trans ((e _).trans ?_)
    refine congrArg (fun n => x (ix3 b n (chan d q))) (Fin.ext ?_)
    show (t.val + s.val % 1024 + 1021) % 2048 = t.val + s.val - 3
    omega
  · have c1 : decide (1024 ≤ s.val) = false := decide_eq_false hs
    rw [c1]
    by_cases h3 : t.val + s.val < 3
    · rw [if_pos (show (⟨t.val + s.val, by omega⟩ : Fin 2051).val < 3 from h3)]
      refine (if_pos ⟨rfl, ?_⟩).trans Ideal.ofBits_zero_f32
      show t.val + s.val % 1024 < 3
      omega
    · rw [if_neg (show ¬ (⟨t.val + s.val, by omega⟩ : Fin 2051).val < 3 from h3)]
      refine (if_neg (fun hh => ?_)).trans ((e _).trans ?_)
      · have : t.val + s.val % 1024 < 3 := hh.2
        omega
      · refine congrArg (fun n => x (ix3 b n (chan d q))) (Fin.ext ?_)
        show (t.val + s.val % 1024 + 2045) % 2048 = t.val + s.val - 3
        omega

/-- What every device ends with is the reference's result. -/
theorem outAt_eq (m' : (ℓ : Loc Cert.ReferenceIdeal.nD Cert.ReferenceIdeal.τ Cert.ReferenceIdeal.sig) → Buf (Elt Ideal) ℓ)
    (x : (⟨3, ![4, 2048, 4096]⟩ : Shape).Idx → EReal) (k : (⟨2, ![4, 4096]⟩ : Shape).Idx → EReal)
    (w : (⟨2, ![4096, 1024]⟩ : Shape).Idx → EReal)
    (ex : m' (((0 : Dev Cert.ReferenceIdeal.nD).tc : Thread Cert.ReferenceIdeal.nD Cert.ReferenceIdeal.τ).loc Cert.ReferenceIdeal.main_arg0) = x)
    (ek : m' (((0 : Dev Cert.ReferenceIdeal.nD).tc : Thread Cert.ReferenceIdeal.nD Cert.ReferenceIdeal.τ).loc Cert.ReferenceIdeal.main_arg1) = k)
    (ew : m' (((0 : Dev Cert.ReferenceIdeal.nD).tc : Thread Cert.ReferenceIdeal.nD Cert.ReferenceIdeal.τ).loc Cert.ReferenceIdeal.main_arg2) = w)
    (hx : ∀ d, xst m d = Layout.block ⟨3, ![4, 2048, 1024]⟩ ⟨3, ![4, 2048, 4096]⟩ 2 4 d x)
    (hk : ∀ d, kst m d = Layout.block ⟨2, ![4, 1024]⟩ ⟨2, ![4, 4096]⟩ 1 4 d k)
    (hw : ∀ d, wst m d = Layout.block ⟨2, ![1024, 1024]⟩ ⟨2, ![4096, 1024]⟩ 0 4 d w)
    (c : Dev Cert.KernelIdeal.nD) : outAt m c = Cert.ReferenceIdeal.Value.res_out0 m' 0 := by
  funext i
  obtain ⟨b, s, p, rfl⟩ : ∃ (b : Fin 4) (s : Fin 2048) (p : Fin 1024), i = ix3 b s p := ⟨i 0, i 1, i 2, eq_ix3 i⟩
  refine Eq.trans ?_ (ref_apply m' b s p).symm
  rw [ex, ek, ew]
  refine (res_apply m c (decide (1024 ≤ s.val)) b ⟨s.val % 1024, Nat.mod_lt _ (by decide)⟩ p).trans ?_
  refine Eq.trans ?_ (Fin.sum_univ_tiles (M := EReal) 4 1024 rfl _).symm
  refine Finset.sum_congr (M := EReal) rfl fun d _ => ?_
  refine (yv_apply m d b _ _ p).trans ?_
  refine Finset.sum_congr (M := EReal) rfl fun q _ => ?_
  have es : (fun t : Fin 4 => seg m d b (decide (1024 ≤ s.val)) (ix3 0 ⟨t.val + s.val % 1024, by omega⟩ q))
      = fun t : Fin 4 => padded x b ⟨t.val + s.val, by omega⟩ (chan d q) :=
    funext fun t => seg_padded m x d (hx d) b s t q _
  have et : (fun t : Fin 4 => kst m d (ix2 t q)) = fun t : Fin 4 => k (ix2 t (chan d q)) :=
    funext fun t => (congrFun (hk d) _).trans (block_cols k d t q _)
  have eu : wst m d (ix2 q p) = w (ix2 (chan d q) p) := (congrFun (hw d) _).trans (block_rows w d q p _)
  show gate (taps (fun t : Fin 4 => seg m d b (decide (1024 ≤ s.val)) (ix3 0 ⟨t.val + s.val % 1024, by omega⟩ q))
    (fun t : Fin 4 => kst m d (ix2 t q))) * wst m d (ix2 q p) = _
  rw [es, et, eu]
  rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's text over any float values: every execution ends with the arguments as they were and every counter
    at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).2, h.2⟩) (Cert.RingProof.run_main m ρ)

/-- The kernel as written, at the machine's bits: the two programs have the same text. -/
theorem frame_kernel : Cert.quiescent_Kernel := fun m ρ _ => by
  rw [Cert.RingProof.defs_same, Cert.RingProof.main_same]
  exact frame_any (F := Bits) m ρ

/-- The same frame over the ideal values. -/
theorem frame_kernelIdeal : Cert.quiescent_KernelIdeal := fun m ρ _ => frame_any (F := Ideal) m ρ

/-- The reference leaves its arguments unchanged, and has no counters. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the ideal values, from blocks of the reference's arrays, every device's result is the reference's. -/
theorem algebraic : Cert.algebraic_KernelIdeal_ReferenceIdeal := fun m g m' g' _ H =>
  ⟨Cert.ReferenceIdeal.Value.res_out0 m' 0,
    (θ_run Cert.KernelIdeal.defs _ _).mono
      (fun _ h c => ⟨(h.1 c).1.trans (Cert.RingProof.outAt_eq m m' _ _ _ rfl rfl rfl (fun d => (H d).1)
        (fun d => (H d).2.1) (fun d => (H d).2.2) c), (h.1 c).2⟩)
      (Cert.RingProof.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
